-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sound [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sound [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sound : Cert.Pre_sound.Facts),
    quiescent_Kernel (hKernel := hKernel)
    ∧ quiescent_KernelIdeal (hKernelIdeal := hKernelIdeal)
    ∧ quiescent_KernelIdeal_pre_sound (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ preserves_Kernel_KernelIdeal
    ∧ algebraic_KernelIdeal_ReferenceIdeal_pre_sound (hKernelIdeal := hKernelIdeal) (hReferenceIdeal := hReferenceIdeal) (hPre_sound := hPre_sound)
-- ==== Pre_sound.lean ====
abbrev S12x32x128 : Shape := ⟨3, ![12, 32, 128]⟩
abbrev S12x32 : Shape := ⟨2, ![12, 32]⟩
abbrev S1524x1280x128 : Shape := ⟨3, ![1524, 1280, 128]⟩
abbrev S1524x1280 : Shape := ⟨2, ![1524, 1280]⟩
abbrev S12x1524x32 : Shape := ⟨3, ![12, 1524, 32]⟩
abbrev S12x1524 : Shape := ⟨2, ![12, 1524]⟩
abbrev S_ : Shape := ⟨0, ![]⟩

class Facts : Prop where
  bcast_S_S12x1524x32 : S_.BroadcastsInDim S12x1524x32 (![] : Fin 0 → Fin S12x1524x32.rank)
  bitsLt_bf16_f32 : FTy.bits .bf16 < FTy.bits .f32
  bcast_S_S12x32x128 : S_.BroadcastsInDim S12x32x128 (![] : Fin 0 → Fin S12x32x128.rank)

variable [Facts]

def fn {F : FTy → Type} [FloatOps F] (main_arg0 : FVec F S12x32x128 .bf16) (main_arg1 : FVec F S12x32 .f32) (main_arg2 : FVec F S1524x1280x128 .fp8e4m3) (main_arg3 : FVec F S1524x1280 .f32) (main_arg4 : IVec S12x1524x32 32) (main_arg5 : FVec F S12x1524 .bf16) : IVec S12x1524x32 1 × IVec S12x32x128 1 :=
  let main_c : IVec S_ 32 := constantI S_ 32 0#32
  let main_v0 : IVec S12x1524x32 32 := broadcastInDim S12x1524x32 ![] bcast_S_S12x1524x32 main_c
  let main_v1 : IVec S12x1524x32 1 := cmpi .sge main_arg4 main_v0
  let main_c_0 : IVec S_ 32 := constantI S_ 32 1280#32
  let main_v2 : IVec S12x1524x32 32 := broadcastInDim S12x1524x32 ![] bcast_S_S12x1524x32 main_c_0
  let main_v3 : IVec S12x1524x32 1 := cmpi .slt main_arg4 main_v2
  let main_v4 : IVec S12x1524x32 1 := andi main_v1 main_v3
  let main_v5 : FVec F S12x32x128 .f32 := (extf .f32 · bitsLt_bf16_f32) main_arg0
  let main_v6 : FVec F S12x32x128 .f32 := Host.absf main_v5
  let main_cst : FVec F S_ .f32 := constant S_ .f32 0x7F800000#32
  let main_v7 : FVec F S12x32x128 .f32 := broadcastInDim S12x32x128 ![] bcast_S_S12x32x128 main_cst
  let main_v8 : IVec S12x32x128 1 := cmpf .olt main_v6 main_v7
  (main_v4, main_v8)
-- ==== Kernel.lean ====
abbrev S12x32x128 : Shape := ⟨3, ![12, 32, 128]⟩
abbrev S12x32 : Shape := ⟨2, ![12, 32]⟩
abbrev S1524x1280x128 : Shape := ⟨3, ![1524, 1280, 128]⟩
abbrev S1524x1280 : Shape := ⟨2, ![1524, 1280]⟩
abbrev S12x1524x32 : Shape := ⟨3, ![12, 1524, 32]⟩
abbrev S12x1524 : Shape := ⟨2, ![12, 1524]⟩
abbrev S1524x12x32 : Shape := ⟨3, ![1524, 12, 32]⟩
abbrev S381x4x384 : Shape := ⟨3, ![381, 4, 384]⟩
abbrev S1524x12 : Shape := ⟨2, ![1524, 12]⟩
abbrev S1524x384 : Shape := ⟨2, ![1524, 384]⟩
abbrev S381x4x1280 : Shape := ⟨3, ![381, 4, 1280]⟩
abbrev S1x384 : Shape := ⟨2, ![1, 384]⟩
abbrev S384x128 : Shape := ⟨2, ![384, 128]⟩
abbrev S1x4x384 : Shape := ⟨3, ![1, 4, 384]⟩
abbrev S1x4x1280 : Shape := ⟨3, ![1, 4, 1280]⟩
abbrev S4x1280x128 : Shape := ⟨3, ![4, 1280, 128]⟩
abbrev S4x384 : Shape := ⟨2, ![4, 384]⟩
abbrev S4x1280 : Shape := ⟨2, ![4, 1280]⟩
abbrev S4x128 : Shape := ⟨2, ![4, 128]⟩
abbrev S4x128x1 : Shape := ⟨3, ![4, 128, 1]⟩
abbrev S384x4 : Shape := ⟨2, ![384, 4]⟩
abbrev S640x128 : Shape := ⟨2, ![640, 128]⟩
abbrev S1x128 : Shape := ⟨2, ![1, 128]⟩
abbrev S640x384 : Shape := ⟨2, ![640, 384]⟩
abbrev S384x1 : Shape := ⟨2, ![384, 1]⟩
abbrev S384x256 : Shape := ⟨2, ![384, 256]⟩
abbrev S640x256 : Shape := ⟨2, ![640, 256]⟩
abbrev S1x640x128 : Shape := ⟨3, ![1, 640, 128]⟩
abbrev S384x640 : Shape := ⟨2, ![384, 640]⟩

abbrev nBuf : Space → Nat
  | .hbm => 18
  | .vmem => 14
  | .smem => 0
  | _ => 0

abbrev bufTy : (tb : Table) → Fin (tcTables nBuf tb) → BufTy
  | .hbm, ⟨0, _⟩ => ⟨S12x32x128, .bf16⟩
  | .hbm, ⟨1, _⟩ => ⟨S12x32, .f32⟩
  | .hbm, ⟨2, _⟩ => ⟨S1524x1280x128, .fp8e4m3⟩
  | .hbm, ⟨3, _⟩ => ⟨S1524x1280, .f32⟩
  | .hbm, ⟨4, _⟩ => ⟨S12x1524x32, .i32⟩
  | .hbm, ⟨5, _⟩ => ⟨S12x1524, .bf16⟩
  | .hbm, ⟨6, _⟩ => ⟨S1524x12x32, .i32⟩
  | .hbm, ⟨7, _⟩ => ⟨S381x4x384, .i32⟩
  | .hbm, ⟨8, _⟩ => ⟨S12x1524, .f32⟩
  | .hbm, ⟨9, _⟩ => ⟨S1524x12, .f32⟩
  | .hbm, ⟨10, _⟩ => ⟨S1524x12x32, .f32⟩
  | .hbm, ⟨11, _⟩ => ⟨S1524x384, .f32⟩
  | .hbm, ⟨12, _⟩ => ⟨S381x4x384, .f32⟩
  | .hbm, ⟨13, _⟩ => ⟨S381x4x1280, .f32⟩
  | .hbm, ⟨14, _⟩ => ⟨S1x384, .f32⟩
  | .hbm, ⟨15, _⟩ => ⟨S384x128, .bf16⟩
  | .hbm, ⟨16, _⟩ => ⟨S384x128, .bf16⟩
  | .hbm, ⟨17, _⟩ => ⟨S1524x1280x128, .bf16⟩
  | .local _ .vmem, ⟨0, _⟩ => ⟨S1x4x384, .i32⟩
  | .local _ .vmem, ⟨1, _⟩ => ⟨S1x4x384, .i32⟩
  | .local _ .vmem, ⟨2, _⟩ => ⟨S1x4x384, .f32⟩
  | .local _ .vmem, ⟨3, _⟩ => ⟨S1x4x384, .f32⟩
  | .local _ .vmem, ⟨4, _⟩ => ⟨S1x4x1280, .f32⟩
  | .local _ .vmem, ⟨5, _⟩ => ⟨S1x4x1280, .f32⟩
  | .local _ .vmem, ⟨6, _⟩ => ⟨S1x384, .f32⟩
  | .local _ .vmem, ⟨7, _⟩ => ⟨S384x128, .bf16⟩
  | .local _ .vmem, ⟨8, _⟩ => ⟨S4x1280x128, .fp8e4m3⟩
  | .local _ .vmem, ⟨9, _⟩ => ⟨S4x1280x128, .fp8e4m3⟩
  | .local _ .vmem, ⟨10, _⟩ => ⟨S384x128, .bf16⟩
  | .local _ .vmem, ⟨11, _⟩ => ⟨S4x1280x128, .bf16⟩
  | .local _ .vmem, ⟨12, _⟩ => ⟨S4x1280x128, .bf16⟩
  | .local _ .vmem, ⟨13, _⟩ => ⟨S384x128, .f32⟩
  | _, _ => ⟨S12x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![381], ![false]⟩

def k0_cond2 (i : grid0.Coords) : BitVec 1 :=
  let arg0 : BitVec 32 := BitVec.ofNat 32 (i 0).val
  let c380_i32 : BitVec 32 := 380#32
  let v857 : BitVec 1 := Scalar.cmpi .eq arg0 c380_i32
  let v858 : BitVec 32 := Scalar.extui v857
  let c0_i32_240 : BitVec 32 := 0#32
  let v859 : BitVec 1 := Scalar.cmpi .ne v858 c0_i32_240
  v859

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1280x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1280x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S12x32x128 : Shape := ⟨3, ![12, 32, 128]⟩
abbrev S12x32 : Shape := ⟨2, ![12, 32]⟩
abbrev S1524x1280x128 : Shape := ⟨3, ![1524, 1280, 128]⟩
abbrev S1524x1280 : Shape := ⟨2, ![1524, 1280]⟩
abbrev S12x1524x32 : Shape := ⟨3, ![12, 1524, 32]⟩
abbrev S12x1524 : Shape := ⟨2, ![12, 1524]⟩
abbrev S1524 : Shape := ⟨1, ![1524]⟩
abbrev S1x1524x1 : Shape := ⟨3, ![1, 1524, 1]⟩
abbrev S_ : Shape := ⟨0, ![]⟩
abbrev S12x1524x32x1 : Shape := ⟨4, ![12, 1524, 32, 1]⟩
abbrev S12x1524x32x2 : Shape := ⟨4, ![12, 1524, 32, 2]⟩
abbrev S12x1524x32x128 : Shape := ⟨4, ![12, 1524, 32, 128]⟩
abbrev S12x32x1 : Shape := ⟨3, ![12, 32, 1]⟩
abbrev S12x1524x1x1 : Shape := ⟨4, ![12, 1524, 1, 1]⟩
abbrev S12x1x32x128 : Shape := ⟨4, ![12, 1, 32, 128]⟩
abbrev S384x128 : Shape := ⟨2, ![384, 128]⟩

abbrev nBuf : Space → Nat
  | .hbm => 86
  | .vmem => 2
  | .smem => 0
  | _ => 0

abbrev bufTy : (tb : Table) → Fin (tcTables nBuf tb) → BufTy
  | .hbm, ⟨0, _⟩ => ⟨S12x32x128, .bf16⟩
  | .hbm, ⟨1, _⟩ => ⟨S12x32, .f32⟩
  | .hbm, ⟨2, _⟩ => ⟨S1524x1280x128, .fp8e4m3⟩
  | .hbm, ⟨3, _⟩ => ⟨S1524x1280, .f32⟩
  | .hbm, ⟨4, _⟩ => ⟨S12x1524x32, .i32⟩
  | .hbm, ⟨5, _⟩ => ⟨S12x1524, .bf16⟩
  | .hbm, ⟨6, _⟩ => ⟨S1524, .i32⟩
  | .hbm, ⟨7, _⟩ => ⟨S1x1524x1, .i32⟩
  | .hbm, ⟨8, _⟩ => ⟨S_, .i32⟩
  | .hbm, ⟨9, _⟩ => ⟨S1x1524x1, .i32⟩
  | .hbm, ⟨10, _⟩ => ⟨S1x1524x1, .i1⟩
  | .hbm, ⟨11, _⟩ => ⟨S_, .i32⟩
  | .hbm, ⟨12, _⟩ => ⟨S1x1524x1, .i32⟩
  | .hbm, ⟨13, _⟩ => ⟨S1x1524x1, .i32⟩
  | .hbm, ⟨14, _⟩ => ⟨S1x1524x1, .i32⟩
  | .hbm, ⟨15, _⟩ => ⟨S_, .i32⟩
  | .hbm, ⟨16, _⟩ => ⟨S12x1524x32, .i32⟩
  | .hbm, ⟨17, _⟩ => ⟨S12x1524x32, .i1⟩
  | .hbm, ⟨18, _⟩ => ⟨S_, .i32⟩
  | .hbm, ⟨19, _⟩ => ⟨S12x1524x32, .i32⟩
  | .hbm, ⟨20, _⟩ => ⟨S12x1524x32, .i32⟩
  | .hbm, ⟨21, _⟩ => ⟨S12x1524x32, .i32⟩
  | .hbm, ⟨22, _⟩ => ⟨S12x1524x32, .i32⟩
  | .hbm, ⟨23, _⟩ => ⟨S12x1524x32x1, .i32⟩
  | .hbm, ⟨24, _⟩ => ⟨S12x1524x32x1, .i32⟩
  | .hbm, ⟨25, _⟩ => ⟨S12x1524x32x2, .i32⟩
  | .hbm, ⟨26, _⟩ => ⟨S12x1524x32x128, .fp8e4m3⟩
  | .hbm, ⟨27, _⟩ => ⟨S_, .i32⟩
  | .hbm, ⟨28, _⟩ => ⟨S1x1524x1, .i32⟩
  | .hbm, ⟨29, _⟩ => ⟨S1x1524x1, .i1⟩
  | .hbm, ⟨30, _⟩ => ⟨S_, .i32⟩
  | .hbm, ⟨31, _⟩ => ⟨S1x1524x1, .i32⟩
  | .hbm, ⟨32, _⟩ => ⟨S1x1524x1, .i32⟩
  | .hbm, ⟨33, _⟩ => ⟨S1x1524x1, .i32⟩
  | .hbm, ⟨34, _⟩ => ⟨S_, .i32⟩
  | .hbm, ⟨35, _⟩ => ⟨S12x1524x32, .i32⟩
  | .hbm, ⟨36, _⟩ => ⟨S12x1524x32, .i1⟩
  | .hbm, ⟨37, _⟩ => ⟨S_, .i32⟩
  | .hbm, ⟨38, _⟩ => ⟨S12x1524x32, .i32⟩
  | .hbm, ⟨39, _⟩ => ⟨S12x1524x32, .i32⟩
  | .hbm, ⟨40, _⟩ => ⟨S12x1524x32, .i32⟩
  | .hbm, ⟨41, _⟩ => ⟨S12x1524x32, .i32⟩
  | .hbm, ⟨42, _⟩ => ⟨S12x1524x32x1, .i32⟩
  | .hbm, ⟨43, _⟩ => ⟨S12x1524x32x1, .i32⟩
  | .hbm, ⟨44, _⟩ => ⟨S12x1524x32x2, .i32⟩
  | .hbm, ⟨45, _⟩ => ⟨S12x1524x32, .f32⟩
  | .hbm, ⟨46, _⟩ => ⟨S12x1524x32x128, .bf16⟩
  | .hbm, ⟨47, _⟩ => ⟨S12x1524x32, .bf16⟩
  | .hbm, ⟨48, _⟩ => ⟨S12x1524x32x1, .bf16⟩
  | .hbm, ⟨49, _⟩ => ⟨S12x1524x32x128, .bf16⟩
  | .hbm, ⟨50, _⟩ => ⟨S12x1524x32x128, .bf16⟩
  | .hbm, ⟨51, _⟩ => ⟨S12x32x128, .f32⟩
  | .hbm, ⟨52, _⟩ => ⟨S12x32x128, .bf16⟩
  | .hbm, ⟨53, _⟩ => ⟨S12x32x128, .f32⟩
  | .hbm, ⟨54, _⟩ => ⟨S12x32x1, .f32⟩
  | .hbm, ⟨55, _⟩ => ⟨S12x32x128, .f32⟩
  | .hbm, ⟨56, _⟩ => ⟨S12x32x128, .f32⟩
  | .hbm, ⟨57, _⟩ => ⟨S12x1524, .f32⟩
  | .hbm, ⟨58, _⟩ => ⟨S12x1524x1x1, .f32⟩
  | .hbm, ⟨59, _⟩ => ⟨S12x1x32x128, .f32⟩
  | .hbm, ⟨60, _⟩ => ⟨S12x1524x32x128, .f32⟩
  | .hbm, ⟨61, _⟩ => ⟨S12x1524x32x128, .f32⟩
  | .hbm, ⟨62, _⟩ => ⟨S12x1524x32x128, .f32⟩
  | .hbm, ⟨63, _⟩ => ⟨S_, .f32⟩
  | .hbm, ⟨64, _⟩ => ⟨S1524x1280x128, .f32⟩
  | .hbm, ⟨65, _⟩ => ⟨S_, .i32⟩
  | .hbm, ⟨66, _⟩ => ⟨S1x1524x1, .i32⟩
  | .hbm, ⟨67, _⟩ => ⟨S1x1524x1, .i1⟩
  | .hbm, ⟨68, _⟩ => ⟨S_, .i32⟩
  | .hbm, ⟨69, _⟩ => ⟨S1x1524x1, .i32⟩
  | .hbm, ⟨70, _⟩ => ⟨S1x1524x1, .i32⟩
  | .hbm, ⟨71, _⟩ => ⟨S1x1524x1, .i32⟩
  | .hbm, ⟨72, _⟩ => ⟨S_, .i32⟩
  | .hbm, ⟨73, _⟩ => ⟨S12x1524x32, .i32⟩
  | .hbm, ⟨74, _⟩ => ⟨S12x1524x32, .i1⟩
  | .hbm, ⟨75, _⟩ => ⟨S_, .i32⟩
  | .hbm, ⟨76, _⟩ => ⟨S12x1524x32, .i32⟩
  | .hbm, ⟨77, _⟩ => ⟨S12x1524x32, .i32⟩
  | .hbm, ⟨78, _⟩ => ⟨S12x1524x32, .i32⟩
  | .hbm, ⟨79, _⟩ => ⟨S12x1524x32, .i32⟩
  | .hbm, ⟨80, _⟩ => ⟨S12x1524x32x1, .i32⟩
  | .hbm, ⟨81, _⟩ => ⟨S12x1524x32x1, .i32⟩
  | .hbm, ⟨82, _⟩ => ⟨S12x1524x32x2, .i32⟩
  | .hbm, ⟨83, _⟩ => ⟨S1524x1280x128, .f32⟩
  | .hbm, ⟨84, _⟩ => ⟨S1524x1280x128, .bf16⟩
  | .hbm, ⟨85, _⟩ => ⟨S384x128, .bf16⟩
  | .local _ .vmem, ⟨0, _⟩ => ⟨S12x1524x32x128, .fp8e4m3⟩
  | .local _ .vmem, ⟨1, _⟩ => ⟨S12x1524x32x128, .bf16⟩
  | _, _ => ⟨S12x32x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x1524x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1524x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Spec.lean ====
/-
  The two gradients the kernel and the reference both compute, written as sums over the arguments' entries. Documents are
  numbered `n : Fin 1524`, batches `b : Fin 12`, query lines `i : Fin 32`, columns `c : Fin 128`. A query row of the flat
  [384, 128] result is the pair `(batch, line)` of its number.
-/
module

public import Idealize.ShloMosaic.Lib.Pointwise

@[expose] public section

noncomputable section

namespace Cert.Spec

open Idealize.ShloMosaic

/-- The batch of a flat query row. -/
def batch (p : Fin 384) : Fin 12 := ⟨p.val / 32, by omega⟩

/-- The line of a flat query row. -/
def line (p : Fin 384) : Fin 32 := ⟨p.val % 32, by omega⟩

/-- The document row that query line `i` of batch `b` chose in document `n`: the entry of the index array, which is below
    1280 (the remainder only makes the value a row whatever the entry is). -/
def chosen (a4 : IVec ⟨3, ![12, 1524, 32]⟩ 32) (b : Fin 12) (n : Fin 1524) (i : Fin 32) : Fin 1280 :=
  ⟨BitVec.toNat (w := 32) (a4 (ix3 b n i)) % 1280, Nat.mod_lt _ (by decide)⟩

/-- Every entry of the index array is a row number. -/
def RowNumbers (a4 : IVec ⟨3, ![12, 1524, 32]⟩ 32) : Prop :=
  ∀ (b : Fin 12) (n : Fin 1524) (i : Fin 32), BitVec.toNat (w := 32) (a4 (ix3 b n i)) < 1280

theorem chosen_val {a4 : IVec ⟨3, ![12, 1524, 32]⟩ 32} (h : RowNumbers a4) (b : Fin 12) (n : Fin 1524) (i : Fin 32) :
    (chosen a4 b n i).val = BitVec.toNat (w := 32) (a4 (ix3 b n i)) :=
  Nat.mod_eq_of_lt (h b n i)

/-- No entry is infinite. -/
def Finite {s : Shape} (x : FVec Ideal s .bf16) : Prop := ∀ i, (x i : EReal) ≠ ⊤ ∧ (x i : EReal) ≠ ⊥

/-- Three factors, the last two exchanged. -/
theorem mul_swap (x y z : EReal) : x * y * z = x * (z * y) := by
  rw [mul_assoc, mul_comm y z]

/-- Document `n`'s term of the gradient of a query line: the score gradient times the document row the line chose, scaled. -/
def queryTerm (a2 : FVec Ideal ⟨3, ![1524, 1280, 128]⟩ .fp8e4m3) (a3 : FVec Ideal ⟨2, ![1524, 1280]⟩ .f32)
    (a4 : IVec ⟨3, ![12, 1524, 32]⟩ 32) (a5 : FVec Ideal ⟨2, ![12, 1524]⟩ .bf16)
    (b : Fin 12) (i : Fin 32) (c : Fin 128) (n : Fin 1524) : EReal :=
  (a5 (ix2 b n) : EReal) * ((a2 (ix3 n (chosen a4 b n i) c) : EReal) * (a3 (ix2 n (chosen a4 b n i)) : EReal))

/-- The gradient of a query line: the sum of the documents' terms. -/
def queryGrad (a2 : FVec Ideal ⟨3, ![1524, 1280, 128]⟩ .fp8e4m3) (a3 : FVec Ideal ⟨2, ![1524, 1280]⟩ .f32)
    (a4 : IVec ⟨3, ![12, 1524, 32]⟩ 32) (a5 : FVec Ideal ⟨2, ![12, 1524]⟩ .bf16)
    (b : Fin 12) (i : Fin 32) (c : Fin 128) : EReal :=
  ∑ n : Fin 1524, queryTerm a2 a3 a4 a5 b i c n

/-- A query line's term of the gradient of a document row: the score gradient times the line, scaled. -/
def docTerm (a0 : FVec Ideal ⟨3, ![12, 32, 128]⟩ .bf16) (a1 : FVec Ideal ⟨2, ![12, 32]⟩ .f32)
    (a5 : FVec Ideal ⟨2, ![12, 1524]⟩ .bf16) (n : Fin 1524) (c : Fin 128) (b : Fin 12) (i : Fin 32) : EReal :=
  (a5 (ix2 b n) : EReal) * ((a0 (ix3 b i c) : EReal) * (a1 (ix2 b i) : EReal))

/-- The gradient of a document row: the sum of the terms of the query lines that chose it. -/
def docGrad (a0 : FVec Ideal ⟨3, ![12, 32, 128]⟩ .bf16) (a1 : FVec Ideal ⟨2, ![12, 32]⟩ .f32)
    (a4 : IVec ⟨3, ![12, 1524, 32]⟩ 32) (a5 : FVec Ideal ⟨2, ![12, 1524]⟩ .bf16)
    (n : Fin 1524) (s : Fin 1280) (c : Fin 128) : EReal :=
  ∑ b : Fin 12, ∑ i : Fin 32, if chosen a4 b n i = s then docTerm a0 a1 a5 n c b i else 0

end Cert.Spec

end
-- ==== Proof.Pre.lean ====
/-
  What the precondition says: every entry of the index array is a row number below 1280, and no query code is infinite.
-/
module

public import proofs.«01_k».proof.Proof.Spec
public import proofs.«01_k».proof.Pre_sound
public import Idealize.ShloMosaic.Lib.StableHlo.Predicate
public import Idealize.ShloMosaic.PureOps.Ideal
public import Idealize.ShloMosaic.Lib.Tactic.WordOmega

@[expose] public section

set_option maxRecDepth 16384

noncomputable section

namespace Cert.Pre_sound

open Idealize.ShloMosaic

variable [Facts]
variable (a0 : FVec Ideal S12x32x128 .bf16) (a1 : FVec Ideal S12x32 .f32) (a2 : FVec Ideal S1524x1280x128 .fp8e4m3)
  (a3 : FVec Ideal S1524x1280 .f32) (a4 : IVec S12x1524x32 32) (a5 : FVec Ideal S12x1524 .bf16)

/-- The first component: every index is a row number. -/
theorem rowNumbers (h : (fn (F := Ideal) a0 a1 a2 a3 a4 a5).1 = fun _ => 1#1) : Spec.RowNumbers a4 := by
  intro b n i
  have e := congrFun h (ix3 b n i)
  have k : (fn (F := Ideal) a0 a1 a2 a3 a4 a5).1 (ix3 b n i)
    = IntOp.andi (IntOp.cmpi .sge (a4 (ix3 b n i)) 0#32) (IntOp.cmpi .slt (a4 (ix3 b n i)) 1280#32) := by
    unfold fn
    pointwise
  rw [k] at e
  clear k h
  revert e
  generalize a4 (ix3 b n i) = w
  intro e
  word_omega

/-- The second component: every query code is finite. -/
theorem finite (h : (fn (F := Ideal) a0 a1 a2 a3 a4 a5).2 = fun _ => 1#1) : Spec.Finite a0 := by
  intro i
  have e := congrFun h i
  have k : ∀ x, (fn (F := Ideal) a0 a1 a2 a3 a4 a5).2 i = x → x = 1#1 := fun x hx => hx.symm.trans e
  clear e h
  idx_vars i
  unfold fn at k
  specialize k _ (by pointwise; rfl)
  rw [StableHlo.Predicate.ofBool_eq_one_iff, decide_eq_true_eq] at k
  have k' := lt_of_lt_of_le k le_top
  constructor <;> intro hinf <;> rw [hinf] at k'
  · exact absurd k' (by simp [FloatOps.absf])
  · exact absurd k' (by simp [FloatOps.absf])

end Cert.Pre_sound

end
-- ==== Proof.Inputs.lean ====
/-
  The kernel's six input blocks at grid step `t`, read at an index: entries of the arguments. Step `t` works on the four
  documents `4 t … 4 t + 3`; lane `p` of a block over query rows is the pair `(batch p, line p)`.
-/
module

public import proofs.«01_k».proof.Proof.Spec
public import proofs.«01_k».proof.Proof.Gen.KernelIdeal.Frame
public import Idealize.ShloMosaic.Lib.Pipeline.ValueKit.Point
public import Idealize.ShloMosaic.Lib.Claim
public import Idealize.ShloMosaic.Lib.Pointwise

@[expose] public section

set_option maxRecDepth 16384

noncomputable section

namespace Cert.KernelIdeal.Inputs

open Cert.KernelIdeal Cert.KernelIdeal.Gen Idealize.ShloMosaic Idealize.ShloMosaic.TcCoe Idealize.SL.Sem
open Cert.Spec (batch line)

/-- The block indices of the windows, decided over the grid. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![t.val, 0, 0] ∧ win0_7.index t = ![t.val, 0, 0] := by
  decide +kernel

/-- The number of steps. -/
theorem lt_steps (t : Fin cfg0.N) : t.val < 381 := lt_of_lt_of_eq t.isLt N_0

/-- Document `k` of step `t`. -/
def doc (t : Fin cfg0.N) (k : Fin 4) : Fin 1524 := ⟨t.val * 4 + k.val, by have := lt_steps t; omega⟩

variable (m : (ℓ : Loc nD τ sig) → Buf (Elt Ideal) ℓ) (c : Dev nD) (t : Fin cfg0.N)

/-- The chosen rows. -/
theorem in0 (k : Fin 4) (p : Fin 384) :
    iblk m c 0 t (ix3 0 k p) = m ((c : Thread nD τ).loc main_arg4) (ix3 (batch p) (doc t k) (line p)) := by
  unfold batch line doc
  have ht := lt_steps t
  blk_point [iblk, V, idx t]

/-- The score gradients. -/
theorem in1 (k : Fin 4) (p : Fin 384) :
    iblk m c 1 t (ix3 0 k p) = m ((c : Thread nD τ).loc main_arg5) (ix2 (batch p) (doc t k)) := by
  unfold batch doc
  have ht := lt_steps t
  blk_point [iblk, V, idx t]

/-- The document rows' scales. -/
theorem in2 (k : Fin 4) (s : Fin 1280) :
    iblk m c 2 t (ix3 0 k s) = m ((c : Thread nD τ).loc main_arg3) (ix2 (doc t k) s) := by
  unfold doc
  have ht := lt_steps t
  blk_point [iblk, V, idx t]

/-- The query lines' scales. -/
theorem in3 (p : Fin 384) :
    iblk m c 3 t (ix2 0 p) = m ((c : Thread nD τ).loc main_arg1) (ix2 (batch p) (line p)) := by
  unfold batch line
  have ht := lt_steps t
  blk_point [iblk, V, idx t]

/-- The query codes. -/
theorem in4 (p : Fin 384) (j : Fin 128) :
    iblk m c 4 t (ix2 p j) = m ((c : Thread nD τ).loc main_arg0) (ix3 (batch p) (line p) j) := by
  unfold batch line
  have ht := lt_steps t
  blk_point [iblk, V, idx t]

/-- The document rows' codes. -/
theorem in5 (k : Fin 4) (s : Fin 1280) (j : Fin 128) :
    iblk m c 5 t (ix3 k s j) = m ((c : Thread nD τ).loc main_arg2) (ix3 (doc t k) s j) := by
  unfold doc
  have ht := lt_steps t
  blk_point [iblk, V, idx t]

end Cert.KernelIdeal.Inputs

end
-- ==== Proof.StepTerms.lean ====
/-
  One grid step of the kernel, as terms. A step holds four documents: their indices `x0`, their scores `x1`, their scale
  tables `x2`, the query scales `x3`, the query codes `x4` and their code blocks `x5`. The generated run names what the
  step leaves in its buffers; here those contents are opened to the body's own expressions, one for the running query
  gradient (`stepAcc`) and one for the block of document gradients (`docBlock`), the same in every case of the step.
-/
module

public import proofs.«01_k».proof.Proof.Gen.KernelIdeal.Frame
public import Idealize.ShloMosaic.Lib.Pipeline.ValueKit.Tiles
public import Idealize.ShloMosaic.PureOps.Ideal

@[expose] public section

noncomputable section

namespace Cert.KernelIdeal.Step

open Cert.KernelIdeal Cert.KernelIdeal.Gen Idealize.ShloMosaic

/-- The weights (score times gathered scale) of the pairs whose index lies in the lower half of a document, zero at the
    others; pairs by documents. -/
def wLow (x0 : Vec Ideal S1x4x384 .i32) (x1 : Vec Ideal S1x4x384 .f32) (x2 : Vec Ideal S1x4x1280 .f32) : FVec Ideal S384x4 .f32 :=
  k0_pay42 (k0_pay3 x0) (k0_pay4 x1) (k0_pay5 x2) (k0_pay15 (k0_pay8 x0) (k0_pay13 (k0_pay5 x2) (k0_pay7 x0) (k0_pay8 x0) (k0_pay11 (k0_pay5 x2) (k0_pay7 x0) (k0_pay8 x0) (k0_pay9 x0 x2) (k0_pay10 x0 x2) 1#32) (k0_pay12 (k0_pay5 x2) (k0_pay7 x0)) 5#32) (k0_pay14 (k0_pay5 x2) (k0_pay7 x0)) 9#32) (k0_pay25 (k0_pay5 x2) (k0_pay17 (k0_pay3 x0)) (k0_pay18 (k0_pay3 x0)) (k0_pay22 (k0_pay5 x2) (k0_pay17 (k0_pay3 x0)) (k0_pay18 (k0_pay3 x0)) (k0_pay19 (k0_pay3 x0) (k0_pay5 x2)) (k0_pay20 (k0_pay5 x2)) k0_pay21) (k0_pay23 (k0_pay5 x2)) k0_pay24) (k0_pay27 (k0_pay3 x0)) (k0_pay28 (k0_pay3 x0)) (k0_pay35 (k0_pay5 x2) (k0_pay27 (k0_pay3 x0)) (k0_pay28 (k0_pay3 x0)) (k0_pay32 (k0_pay5 x2) (k0_pay27 (k0_pay3 x0)) (k0_pay28 (k0_pay3 x0)) k0_pay29 (k0_pay30 (k0_pay5 x2)) (k0_pay31 (k0_pay3 x0))) (k0_pay33 (k0_pay5 x2)) (k0_pay34 (k0_pay27 (k0_pay3 x0)))) (k0_pay36 (k0_pay5 x2)) (k0_pay37 (k0_pay27 (k0_pay3 x0)))

/-- The weights of the pairs whose index lies in the upper half, zero at the others. -/
def wHigh (x0 : Vec Ideal S1x4x384 .i32) (x1 : Vec Ideal S1x4x384 .f32) (x2 : Vec Ideal S1x4x1280 .f32) : FVec Ideal S384x4 .f32 :=
  k0_pay43 (k0_pay3 x0) (k0_pay4 x1) (k0_pay5 x2) (k0_pay15 (k0_pay8 x0) (k0_pay13 (k0_pay5 x2) (k0_pay7 x0) (k0_pay8 x0) (k0_pay11 (k0_pay5 x2) (k0_pay7 x0) (k0_pay8 x0) (k0_pay9 x0 x2) (k0_pay10 x0 x2) 1#32) (k0_pay12 (k0_pay5 x2) (k0_pay7 x0)) 5#32) (k0_pay14 (k0_pay5 x2) (k0_pay7 x0)) 9#32) (k0_pay25 (k0_pay5 x2) (k0_pay17 (k0_pay3 x0)) (k0_pay18 (k0_pay3 x0)) (k0_pay22 (k0_pay5 x2) (k0_pay17 (k0_pay3 x0)) (k0_pay18 (k0_pay3 x0)) (k0_pay19 (k0_pay3 x0) (k0_pay5 x2)) (k0_pay20 (k0_pay5 x2)) k0_pay21) (k0_pay23 (k0_pay5 x2)) k0_pay24) (k0_pay27 (k0_pay3 x0)) (k0_pay28 (k0_pay3 x0)) (k0_pay35 (k0_pay5 x2) (k0_pay27 (k0_pay3 x0)) (k0_pay28 (k0_pay3 x0)) (k0_pay32 (k0_pay5 x2) (k0_pay27 (k0_pay3 x0)) (k0_pay28 (k0_pay3 x0)) k0_pay29 (k0_pay30 (k0_pay5 x2)) (k0_pay31 (k0_pay3 x0))) (k0_pay33 (k0_pay5 x2)) (k0_pay34 (k0_pay27 (k0_pay3 x0)))) (k0_pay36 (k0_pay5 x2)) (k0_pay37 (k0_pay27 (k0_pay3 x0)))

theorem wLow_fold (x0 : Vec Ideal S1x4x384 .i32) (x1 : Vec Ideal S1x4x384 .f32) (x2 : Vec Ideal S1x4x1280 .f32) :
    k0_pay42 (k0_pay3 x0) (k0_pay4 x1) (k0_pay5 x2) (k0_pay15 (k0_pay8 x0) (k0_pay13 (k0_pay5 x2) (k0_pay7 x0) (k0_pay8 x0) (k0_pay11 (k0_pay5 x2) (k0_pay7 x0) (k0_pay8 x0) (k0_pay9 x0 x2) (k0_pay10 x0 x2) 1#32) (k0_pay12 (k0_pay5 x2) (k0_pay7 x0)) 5#32) (k0_pay14 (k0_pay5 x2) (k0_pay7 x0)) 9#32) (k0_pay25 (k0_pay5 x2) (k0_pay17 (k0_pay3 x0)) (k0_pay18 (k0_pay3 x0)) (k0_pay22 (k0_pay5 x2) (k0_pay17 (k0_pay3 x0)) (k0_pay18 (k0_pay3 x0)) (k0_pay19 (k0_pay3 x0) (k0_pay5 x2)) (k0_pay20 (k0_pay5 x2)) k0_pay21) (k0_pay23 (k0_pay5 x2)) k0_pay24) (k0_pay27 (k0_pay3 x0)) (k0_pay28 (k0_pay3 x0)) (k0_pay35 (k0_pay5 x2) (k0_pay27 (k0_pay3 x0)) (k0_pay28 (k0_pay3 x0)) (k0_pay32 (k0_pay5 x2) (k0_pay27 (k0_pay3 x0)) (k0_pay28 (k0_pay3 x0)) k0_pay29 (k0_pay30 (k0_pay5 x2)) (k0_pay31 (k0_pay3 x0))) (k0_pay33 (k0_pay5 x2)) (k0_pay34 (k0_pay27 (k0_pay3 x0)))) (k0_pay36 (k0_pay5 x2)) (k0_pay37 (k0_pay27 (k0_pay3 x0))) = wLow x0 x1 x2 := rfl

theorem wHigh_fold (x0 : Vec Ideal S1x4x384 .i32) (x1 : Vec Ideal S1x4x384 .f32) (x2 : Vec Ideal S1x4x1280 .f32) :
    k0_pay43 (k0_pay3 x0) (k0_pay4 x1) (k0_pay5 x2) (k0_pay15 (k0_pay8 x0) (k0_pay13 (k0_pay5 x2) (k0_pay7 x0) (k0_pay8 x0) (k0_pay11 (k0_pay5 x2) (k0_pay7 x0) (k0_pay8 x0) (k0_pay9 x0 x2) (k0_pay10 x0 x2) 1#32) (k0_pay12 (k0_pay5 x2) (k0_pay7 x0)) 5#32) (k0_pay14 (k0_pay5 x2) (k0_pay7 x0)) 9#32) (k0_pay25 (k0_pay5 x2) (k0_pay17 (k0_pay3 x0)) (k0_pay18 (k0_pay3 x0)) (k0_pay22 (k0_pay5 x2) (k0_pay17 (k0_pay3 x0)) (k0_pay18 (k0_pay3 x0)) (k0_pay19 (k0_pay3 x0) (k0_pay5 x2)) (k0_pay20 (k0_pay5 x2)) k0_pay21) (k0_pay23 (k0_pay5 x2)) k0_pay24) (k0_pay27 (k0_pay3 x0)) (k0_pay28 (k0_pay3 x0)) (k0_pay35 (k0_pay5 x2) (k0_pay27 (k0_pay3 x0)) (k0_pay28 (k0_pay3 x0)) (k0_pay32 (k0_pay5 x2) (k0_pay27 (k0_pay3 x0)) (k0_pay28 (k0_pay3 x0)) k0_pay29 (k0_pay30 (k0_pay5 x2)) (k0_pay31 (k0_pay3 x0))) (k0_pay33 (k0_pay5 x2)) (k0_pay34 (k0_pay27 (k0_pay3 x0)))) (k0_pay36 (k0_pay5 x2)) (k0_pay37 (k0_pay27 (k0_pay3 x0))) = wHigh x0 x1 x2 := rfl

/-- The running query gradient after document 0 of the step, over what it was (`acc`). -/
def acc0 (x0 : Vec Ideal S1x4x384 .i32) (x1 : Vec Ideal S1x4x384 .f32) (x2 : Vec Ideal S1x4x1280 .f32) (x5 : Vec Ideal S4x1280x128 .fp8e4m3) (acc : Vec Ideal S384x128 .f32) : FVec Ideal S384x128 .f32 :=
  k0_pay56 (wLow x0 x1 x2) (wHigh x0 x1 x2) (k0_pay54 (k0_pay44 (k0_pay3 x0)) k0_pay48) (k0_pay55 (View.ld x5 (Rect.unit ![0, 0, 0] ![1, 640, 128] inb_S4x1280x128_S1x640x128_0_0_0)))
    (View.ld x5 (Rect.unit ![0, 640, 0] ![1, 640, 128] inb_S4x1280x128_S1x640x128_0_640_0)) acc

/-- … after document 1. -/
def acc1 (x0 : Vec Ideal S1x4x384 .i32) (x1 : Vec Ideal S1x4x384 .f32) (x2 : Vec Ideal S1x4x1280 .f32) (x5 : Vec Ideal S4x1280x128 .fp8e4m3) (acc : Vec Ideal S384x128 .f32) : FVec Ideal S384x128 .f32 :=
  k0_pay68 (wLow x0 x1 x2) (wHigh x0 x1 x2) k0_pay48 (k0_pay64 (k0_pay44 (k0_pay3 x0)))
    (k0_pay65 (k0_pay44 (k0_pay3 x0)) k0_pay48) (k0_pay66 (k0_pay44 (k0_pay3 x0)) k0_pay48) (k0_pay67 (k0_pay44 (k0_pay3 x0)) k0_pay48)
    (FloatOps.ofBits FTy.bf16 16256#16) (FloatOps.ofBits FTy.bf16 0#16)
    (View.ld x5 (Rect.unit ![1, 0, 0] ![1, 640, 128] inb_S4x1280x128_S1x640x128_1_0_0))
    (View.ld x5 (Rect.unit ![1, 640, 0] ![1, 640, 128] inb_S4x1280x128_S1x640x128_1_640_0)) acc

/-- … after document 2. -/
def acc2 (x0 : Vec Ideal S1x4x384 .i32) (x1 : Vec Ideal S1x4x384 .f32) (x2 : Vec Ideal S1x4x1280 .f32) (x5 : Vec Ideal S4x1280x128 .fp8e4m3) (acc : Vec Ideal S384x128 .f32) : FVec Ideal S384x128 .f32 :=
  k0_pay75 (wLow x0 x1 x2) (wHigh x0 x1 x2) (k0_pay73 (k0_pay44 (k0_pay3 x0)) k0_pay48) (k0_pay74 (View.ld x5 (Rect.unit ![2, 0, 0] ![1, 640, 128] inb_S4x1280x128_S1x640x128_2_0_0)))
    (View.ld x5 (Rect.unit ![2, 640, 0] ![1, 640, 128] inb_S4x1280x128_S1x640x128_2_640_0)) acc

/-- … after document 3. -/
def acc3 (x0 : Vec Ideal S1x4x384 .i32) (x1 : Vec Ideal S1x4x384 .f32) (x2 : Vec Ideal S1x4x1280 .f32) (x5 : Vec Ideal S4x1280x128 .fp8e4m3) (acc : Vec Ideal S384x128 .f32) : FVec Ideal S384x128 .f32 :=
  k0_pay89 (wLow x0 x1 x2) (wHigh x0 x1 x2) k0_pay48 (k0_pay83 (k0_pay44 (k0_pay3 x0)))
    (k0_pay84 (k0_pay44 (k0_pay3 x0)) k0_pay48) (k0_pay85 (k0_pay44 (k0_pay3 x0)) k0_pay48) (k0_pay86 (k0_pay44 (k0_pay3 x0)) k0_pay48)
    k0_pay87 k0_pay88
    (View.ld x5 (Rect.unit ![3, 0, 0] ![1, 640, 128] inb_S4x1280x128_S1x640x128_3_0_0))
    (View.ld x5 (Rect.unit ![3, 640, 0] ![1, 640, 128] inb_S4x1280x128_S1x640x128_3_640_0)) acc

/-- What one step makes of the running query gradient: its four documents in turn. -/
def stepAcc (x0 : Vec Ideal S1x4x384 .i32) (x1 : Vec Ideal S1x4x384 .f32) (x2 : Vec Ideal S1x4x1280 .f32) (x5 : Vec Ideal S4x1280x128 .fp8e4m3) (acc : Vec Ideal S384x128 .f32) : FVec Ideal S384x128 .f32 :=
  acc3 x0 x1 x2 x5 (acc2 x0 x1 x2 x5 (acc1 x0 x1 x2 x5 (acc0 x0 x1 x2 x5 acc)))

/-- The block of four document gradients one step stores: eight pieces, a lower and an upper half per document. -/
def docBlock (x0 : Vec Ideal S1x4x384 .i32) (x1 : Vec Ideal S1x4x384 .f32) (x3 : Vec Ideal S1x384 .f32) (x4 : Vec Ideal S384x128 .bf16) :
    Vec Ideal S4x1280x128 .bf16 :=
  View.canon (Val := Elt Ideal) [
    ⟨Rect.unit ![3, 640, 0] ![1, 640, 128] inb_S4x1280x128_S1x640x128_3_640_0,
      k0_pay82 (k0_pay45 (k0_pay3 x0)) (k0_pay46 x4)
      (k0_pay76 (k0_pay39 (k0_pay4 x1) x3) (k0_pay41 (k0_pay3 x0)) k0_pay47) (k0_pay77 (k0_pay39 (k0_pay4 x1) x3) (k0_pay41 (k0_pay3 x0)) k0_pay47)
      (k0_pay78 (k0_pay39 (k0_pay4 x1) x3)) (k0_pay79 (k0_pay41 (k0_pay3 x0)) k0_pay47) (FloatOps.ofBits FTy.bf16 0#16)⟩,
    ⟨Rect.unit ![3, 0, 0] ![1, 640, 128] inb_S4x1280x128_S1x640x128_3_0_0,
      k0_pay81 (k0_pay45 (k0_pay3 x0)) (k0_pay46 x4)
      (k0_pay76 (k0_pay39 (k0_pay4 x1) x3) (k0_pay41 (k0_pay3 x0)) k0_pay47) (k0_pay77 (k0_pay39 (k0_pay4 x1) x3) (k0_pay41 (k0_pay3 x0)) k0_pay47)
      (k0_pay78 (k0_pay39 (k0_pay4 x1) x3)) (k0_pay79 (k0_pay41 (k0_pay3 x0)) k0_pay47) (FloatOps.ofBits FTy.bf16 0#16)⟩,
    ⟨Rect.unit ![2, 640, 0] ![1, 640, 128] inb_S4x1280x128_S1x640x128_2_640_0,
      k0_pay72 (k0_pay39 (k0_pay4 x1) x3) (k0_pay41 (k0_pay3 x0)) (k0_pay45 (k0_pay3 x0)) (k0_pay46 x4) k0_pay47
      (k0_pay69 (k0_pay41 (k0_pay3 x0)))⟩,
    ⟨Rect.unit ![2, 0, 0] ![1, 640, 128] inb_S4x1280x128_S1x640x128_2_0_0,
      k0_pay71 (k0_pay39 (k0_pay4 x1) x3) (k0_pay41 (k0_pay3 x0)) (k0_pay45 (k0_pay3 x0)) (k0_pay46 x4) k0_pay47
      (k0_pay69 (k0_pay41 (k0_pay3 x0)))⟩,
    ⟨Rect.unit ![1, 640, 0] ![1, 640, 128] inb_S4x1280x128_S1x640x128_1_640_0,
      k0_pay63 (k0_pay45 (k0_pay3 x0)) (k0_pay46 x4) k0_pay47
      (k0_pay57 (k0_pay39 (k0_pay4 x1) x3) (k0_pay41 (k0_pay3 x0)) k0_pay47) (k0_pay58 (k0_pay39 (k0_pay4 x1) x3) (k0_pay41 (k0_pay3 x0)) k0_pay47)
      (k0_pay59 (k0_pay41 (k0_pay3 x0))) (k0_pay60 (k0_pay39 (k0_pay4 x1) x3))⟩,
    ⟨Rect.unit ![1, 0, 0] ![1, 640, 128] inb_S4x1280x128_S1x640x128_1_0_0,
      k0_pay62 (k0_pay45 (k0_pay3 x0)) (k0_pay46 x4) k0_pay47
      (k0_pay57 (k0_pay39 (k0_pay4 x1) x3) (k0_pay41 (k0_pay3 x0)) k0_pay47) (k0_pay58 (k0_pay39 (k0_pay4 x1) x3) (k0_pay41 (k0_pay3 x0)) k0_pay47)
      (k0_pay59 (k0_pay41 (k0_pay3 x0))) (k0_pay60 (k0_pay39 (k0_pay4 x1) x3))⟩,
    ⟨Rect.unit ![0, 640, 0] ![1, 640, 128] inb_S4x1280x128_S1x640x128_0_640_0,
      k0_pay53 (k0_pay52 (k0_pay39 (k0_pay4 x1) x3) (k0_pay41 (k0_pay3 x0)) (k0_pay45 (k0_pay3 x0)) (k0_pay46 x4) k0_pay47
      (k0_pay49 (k0_pay3 x0)))⟩,
    ⟨Rect.unit ![0, 0, 0] ![1, 640, 128] inb_S4x1280x128_S1x640x128_0_0_0,
      k0_pay51 (k0_pay39 (k0_pay4 x1) x3) (k0_pay41 (k0_pay3 x0)) (k0_pay45 (k0_pay3 x0)) (k0_pay46 x4) k0_pay47
      (k0_pay49 (k0_pay3 x0))⟩]

variable (c : Dev nD) (i : grid0.Coords) (arg1 : Memref sig .tc .vmem S1x4x384 .i32) (harg1 : arg1.IsWhole)
  (arg2 : Memref sig .tc .vmem S1x4x384 .f32) (harg2 : arg2.IsWhole) (arg3 : Memref sig .tc .vmem S1x4x1280 .f32) (harg3 : arg3.IsWhole)
  (arg4 : Memref sig .tc .vmem S1x384 .f32) (harg4 : arg4.IsWhole) (arg5 : Memref sig .tc .vmem S384x128 .bf16) (harg5 : arg5.IsWhole)
  (arg6 : Memref sig .tc .vmem S4x1280x128 .fp8e4m3) (harg6 : arg6.IsWhole) (arg7 : Memref sig .tc .vmem S384x128 .bf16) (harg7 : arg7.IsWhole)
  (arg8 : Memref sig .tc .vmem S4x1280x128 .bf16) (harg8 : arg8.IsWhole) (arg9 : Memref sig .tc .vmem S384x128 .f32) (harg9 : arg9.IsWhole)
  (x0 : Vec Ideal S1x4x384 .i32) (x1 : Vec Ideal S1x4x384 .f32) (x2 : Vec Ideal S1x4x1280 .f32) (x3 : Vec Ideal S1x384 .f32)
  (x4 : Vec Ideal S384x128 .bf16) (x5 : Vec Ideal S4x1280x128 .fp8e4m3) (xs0 : Vec Ideal S384x128 .f32)

/-- The first step leaves this running query gradient (from zero). -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5
      = stepAcc x0 x1 x2 x5 (k0_pay2 (F := Ideal)) := by
  frame_out
  simp only [wLow_fold, wHigh_fold]
  rfl

/-- The first step stores this block of document gradients. -/
theorem doc_A (hc0 : cond0_0 i) (hc1 : ¬cond0_1 i) :
    out0_A_7 c i arg1 harg1 arg2 harg2 arg3 harg3 arg4 harg4 arg5 harg5 arg6 harg6 arg7 harg7 arg8 harg8 arg9 harg9 hc0 hc1 x0 x1 x2 x3 x4 x5
      = docBlock x0 x1 x3 x4 := by
  frame_out

/-- The middle steps leave this running query gradient. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 xs0
      = stepAcc x0 x1 x2 x5 xs0 := by
  frame_out
  simp only [wLow_fold, wHigh_fold]
  rfl

/-- The middle steps store this block of document gradients. -/
theorem doc_B (hc0 : ¬cond0_0 i) (hc1 : ¬cond0_1 i) :
    out0_B_7 c i arg1 harg1 arg2 harg2 arg3 harg3 arg4 harg4 arg5 harg5 arg6 harg6 arg7 harg7 arg8 harg8 arg9 harg9 hc0 hc1 x0 x1 x2 x3 x4 x5 xs0
      = docBlock x0 x1 x3 x4 := by
  frame_out

/-- The last step leaves this running query gradient. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 x5 xs0
      = stepAcc x0 x1 x2 x5 xs0 := by
  frame_out
  simp only [wLow_fold, wHigh_fold]
  rfl

/-- The last step stores this block of document gradients. -/
theorem doc_C (hc0 : ¬cond0_0 i) (hc1 : cond0_1 i) :
    out0_C_7 c i arg1 harg1 arg2 harg2 arg3 harg3 arg4 harg4 arg5 harg5 arg6 harg6 arg7 harg7 arg8 harg8 arg9 harg9 hc0 hc1 x0 x1 x2 x3 x4 x5 xs0
      = docBlock x0 x1 x3 x4 := by
  frame_out

/-- The last step also stores the query gradient. -/
theorem query_C (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 x5 xs0
      = k0_pay1 (F := Ideal) (stepAcc x0 x1 x2 x5 xs0) := by
  frame_out
  simp only [wLow_fold, wHigh_fold]
  rfl

end Cert.KernelIdeal.Step
-- ==== Proof.Words.lean ====
/-
  The integer words of the kernel's index arithmetic, one lemma per use: the table chunk and the lane an index names, the
  half of a document it lies in, its place within that half, and the comparisons of such places as 16-bit words. An index
  is a 32-bit word below 1280 throughout.
-/
module

public import Idealize.ShloMosaic.Lib.Pointwise
public import Idealize.ShloMosaic.Lib.Tactic.WordOmega

@[expose] public section

namespace Cert.KernelIdeal.Words

open Idealize.ShloMosaic

variable {α : Type}

/-- A selection by an equality of words is an `if`. -/
theorem select_eq {w : ℕ} (a b : BitVec w) (x y : α) : Scalar.select (IntOp.cmpi .eq a b) x y = if a = b then x else y := by
  unfold Scalar.select IntOp.cmpi
  by_cases h : a = b
  · simp [h]
  · have hb : (a == b) = false := by simpa using h
    simp [h, hb]

/-- The chunk of 128 table entries an index lies in: its bits from 7 up. -/
theorem chunk_toNat (x : BitVec 32) (hx : x.toNat < 1280) : (IntOp.shrsi .vector x 7#32).toNat = x.toNat / 128 := by
  have hm : x.msb = false := by rw [BitVec.msb_eq_decide]; simp; omega
  have h7 : (7#32 : BitVec 32).toNat < 32 := by decide
  unfold IntOp.shrsi
  rw [if_pos h7, BitVec.sshiftRight', BitVec.sshiftRight_eq_of_msb_false hm, BitVec.toNat_ushiftRight, Nat.shiftRight_eq_div_pow]
  rfl

/-- The selection of chunk `n`. -/
theorem select_chunk (x : BitVec 32) (hx : x.toNat < 1280) (n : ℕ) (hn : n < 10) (a b : α) :
    Scalar.select (IntOp.cmpi .eq (IntOp.shrsi .vector x 7#32) (BitVec.ofNat 32 n)) a b = if x.toNat / 128 = n then a else b := by
  rw [select_eq]
  refine if_congr ?_ rfl rfl
  rw [← BitVec.toNat_inj, chunk_toNat x hx, BitVec.toNat_ofNat, Nat.mod_eq_of_lt (by omega)]

/-- The lane within the chunk: the low seven bits (their wrap by 128 when negative never happens). -/
theorem lane_eq (x : BitVec 32) :
    (Scalar.select (IntOp.cmpi .slt (IntOp.andi x 127#32) 0#32) (IntOp.addi (IntOp.andi x 127#32) 128#32)
      (IntOp.andi x 127#32)).toNat % 128 = x.toNat % 128 := by
  have h : (IntOp.andi x 127#32).toNat = x.toNat % 128 := by
    unfold IntOp.andi
    rw [BitVec.toNat_and]
    exact Nat.and_two_pow_sub_one_eq_mod x.toNat 7
  have hs : (IntOp.andi x 127#32).slt 0#32 = false := by
    rw [BitVec.slt_zero_eq_msb, BitVec.msb_eq_decide]; simp only [decide_eq_false_iff_not]; omega
  have hc : IntOp.cmpi .slt (IntOp.andi x 127#32) 0#32 = 0#1 := by
    show BitVec.ofBool ((IntOp.andi x 127#32).slt 0#32) = _; rw [hs]; rfl
  rw [hc]
  show (IntOp.andi x 127#32).toNat % 128 = _
  rw [h]; omega

/-- THE TABLE LOOKUP: the lane of every chunk read, the chunk then selected, is the table at the index. -/
theorem lookup (x : BitVec 32) (hx : x.toNat < 1280) (t : Fin 1280 → α) (z : α) (h0 h1 h2 h3 h4 h5 h6 h7 h8 h9) :
    Scalar.select (IntOp.cmpi .eq (IntOp.shrsi .vector x 7#32) 9#32) (t ⟨1152 + x.toNat % 128, h9⟩)
    (Scalar.select (IntOp.cmpi .eq (IntOp.shrsi .vector x 7#32) 8#32) (t ⟨1024 + x.toNat % 128, h8⟩)
    (Scalar.select (IntOp.cmpi .eq (IntOp.shrsi .vector x 7#32) 7#32) (t ⟨896 + x.toNat % 128, h7⟩)
    (Scalar.select (IntOp.cmpi .eq (IntOp.shrsi .vector x 7#32) 6#32) (t ⟨768 + x.toNat % 128, h6⟩)
    (Scalar.select (IntOp.cmpi .eq (IntOp.shrsi .vector x 7#32) 5#32) (t ⟨640 + x.toNat % 128, h5⟩)
    (Scalar.select (IntOp.cmpi .eq (IntOp.shrsi .vector x 7#32) 4#32) (t ⟨512 + x.toNat % 128, h4⟩)
    (Scalar.select (IntOp.cmpi .eq (IntOp.shrsi .vector x 7#32) 3#32) (t ⟨384 + x.toNat % 128, h3⟩)
    (Scalar.select (IntOp.cmpi .eq (IntOp.shrsi .vector x 7#32) 2#32) (t ⟨256 + x.toNat % 128, h2⟩)
    (Scalar.select (IntOp.cmpi .eq (IntOp.shrsi .vector x 7#32) 1#32) (t ⟨128 + x.toNat % 128, h1⟩)
    (Scalar.select (IntOp.cmpi .eq (IntOp.shrsi .vector x 7#32) 0#32) (t ⟨x.toNat % 128, h0⟩) z)))))))))
      = t ⟨x.toNat, hx⟩ := by
  rw [select_chunk x hx 9 (by omega), select_chunk x hx 8 (by omega), select_chunk x hx 7 (by omega), select_chunk x hx 6 (by omega),
    select_chunk x hx 5 (by omega), select_chunk x hx 4 (by omega), select_chunk x hx 3 (by omega), select_chunk x hx 2 (by omega),
    select_chunk x hx 1 (by omega), select_chunk x hx 0 (by omega)]
  split_ifs <;> first | exact congrArg t (Fin.ext (by dsimp only; omega)) | (exfalso; omega)

/-- The selection of the upper half of a document. -/
theorem select_upper (x : BitVec 32) (hx : x.toNat < 1280) (a b : α) :
    Scalar.select (IntOp.cmpi .sge x 640#32) a b = if 640 ≤ x.toNat then a else b := by
  have h : IntOp.cmpi .sge x 640#32 = BitVec.ofBool (decide (640 ≤ x.toNat)) := by
    show BitVec.ofBool ((640#32).sle x) = _
    rw [BitVec.sle_eq_decide, BitVec.toInt_eq_toNat_of_lt (x := x) (by omega)]
    simp
  rw [h]
  unfold Scalar.select
  by_cases hc : 640 ≤ x.toNat <;> simp [hc]

/-- The place of an index within its half. -/
def place (x : BitVec 32) : BitVec 32 := Scalar.select (IntOp.cmpi .sge x 640#32) (IntOp.subi x 640#32) x

theorem place_toNat (x : BitVec 32) (hx : x.toNat < 1280) :
    (place x).toNat = if 640 ≤ x.toNat then x.toNat - 640 else x.toNat := by
  unfold place
  rw [select_upper x hx]
  split_ifs with h
  · unfold IntOp.subi
    rw [BitVec.toNat_sub_of_le (by rw [BitVec.le_def]; simpa using h)]; rfl
  · rfl

theorem place_lt (x : BitVec 32) (hx : x.toNat < 1280) : (place x).toNat < 640 := by
  rw [place_toNat x hx]; split_ifs <;> omega

/-- Two small numbers as 16-bit words: a row of the half against a place. -/
theorem select_row (n : ℕ) (x : BitVec 32) (hn : n < 640) (hx : x.toNat < 640) (a b : α) :
    Scalar.select (IntOp.cmpi .eq (BitVec.setWidth 16 (BitVec.ofNat 32 n)) (BitVec.setWidth 16 x)) a b
      = if n = x.toNat then a else b := by
  rw [select_eq]
  refine if_congr ?_ rfl rfl
  rw [← BitVec.toNat_inj]
  simp only [BitVec.toNat_setWidth, BitVec.toNat_ofNat]
  omega

/-- A lane of a chunk that starts at `b`, likewise. -/
theorem select_lane (n b : ℕ) (x : BitVec 32) (hn : n + b < 640) (hx : x.toNat < 640) (u v : α) :
    Scalar.select (IntOp.cmpi .eq (IntOp.addi (BitVec.setWidth 16 (BitVec.ofNat 32 n)) (BitVec.ofNat 16 b)) (BitVec.setWidth 16 x)) u v
      = if n + b = x.toNat then u else v := by
  rw [select_eq]
  refine if_congr ?_ rfl rfl
  unfold IntOp.addi
  rw [← BitVec.toNat_inj]
  simp only [BitVec.toNat_setWidth, BitVec.toNat_ofNat, BitVec.toNat_add]
  omega

end Cert.KernelIdeal.Words
-- ==== Proof.ScaleLookup.lean ====
/-
  The scale lookup: the kernel gathers each pair's scale from its document's table of 1280 lane by lane, ten chunks of 128
  for each of three groups of 128 pairs. At a pair, the whole is the table at the pair's index.
-/
module

public import proofs.«01_k».proof.Proof.StepTerms
public import proofs.«01_k».proof.Proof.Words
public import Idealize.ShloMosaic.Lib.Pointwise

@[expose] public section

set_option maxRecDepth 16384

noncomputable section

namespace Cert.KernelIdeal.Step

open Cert.KernelIdeal Cert.KernelIdeal.Gen Idealize.ShloMosaic Cert.KernelIdeal.Words

variable (x0 : Vec Ideal S1x4x384 .i32) (x1 : Vec Ideal S1x4x384 .f32) (x2 : Vec Ideal S1x4x1280 .f32)

/-- The indices of a step are rows of a document. -/
abbrev InRange (x0 : Vec Ideal S1x4x384 .i32) : Prop := ∀ (k : Fin 4) (p : Fin 384), BitVec.toNat (w := 32) (x0 (ix3 0 k p)) < 1280

variable {x0} in
/-- The row pair `p` takes from document `k` of the step. -/
def row (hx : InRange x0) (k : Fin 4) (p : Fin 384) : Fin 1280 := ⟨BitVec.toNat (w := 32) (x0 (ix3 0 k p)), hx k p⟩

/-- The weight of pair `p` in document `k`: its score times its scale. -/
def weight (hx : InRange x0) (k : Fin 4) (p : Fin 384) : EReal := x1 (ix3 0 k p) * x2 (ix3 0 k (row hx k p))

theorem weight_apply (hx : InRange x0) (k : Fin 4) (p : Fin 384) :
    k0_pay38 (k0_pay4 x1) (k0_pay5 x2) (k0_pay15 (k0_pay8 x0) (k0_pay13 (k0_pay5 x2) (k0_pay7 x0) (k0_pay8 x0) (k0_pay11 (k0_pay5 x2) (k0_pay7 x0) (k0_pay8 x0) (k0_pay9 x0 x2) (k0_pay10 x0 x2) 1#32) (k0_pay12 (k0_pay5 x2) (k0_pay7 x0)) 5#32) (k0_pay14 (k0_pay5 x2) (k0_pay7 x0)) 9#32) (k0_pay25 (k0_pay5 x2) (k0_pay17 (k0_pay3 x0)) (k0_pay18 (k0_pay3 x0)) (k0_pay22 (k0_pay5 x2) (k0_pay17 (k0_pay3 x0)) (k0_pay18 (k0_pay3 x0)) (k0_pay19 (k0_pay3 x0) (k0_pay5 x2)) (k0_pay20 (k0_pay5 x2)) k0_pay21) (k0_pay23 (k0_pay5 x2)) k0_pay24) (k0_pay27 (k0_pay3 x0)) (k0_pay28 (k0_pay3 x0)) (k0_pay35 (k0_pay5 x2) (k0_pay27 (k0_pay3 x0)) (k0_pay28 (k0_pay3 x0)) (k0_pay32 (k0_pay5 x2) (k0_pay27 (k0_pay3 x0)) (k0_pay28 (k0_pay3 x0)) k0_pay29 (k0_pay30 (k0_pay5 x2)) (k0_pay31 (k0_pay3 x0))) (k0_pay33 (k0_pay5 x2)) (k0_pay34 (k0_pay27 (k0_pay3 x0)))) (k0_pay36 (k0_pay5 x2)) (k0_pay37 (k0_pay27 (k0_pay3 x0))) (ix2 k p)
      = weight x0 x1 x2 hx k p := by
  unfold_payloads
  pointwise
  unfold weight
  simp only [lane_eq]
  refine congrArg (x1 (ix3 0 k p) * ·) ?_
  have move : ∀ p' : Fin 384, p' = p → x2 (ix3 0 k (row hx k p')) = x2 (ix3 0 k (row hx k p)) := fun p' e => by rw [e]
  by_cases h1 : (p : ℕ) < 128
  · rw [dif_pos h1]
    exact lookup _ (hx k p) (fun i => x2 (ix3 0 k i)) _ _ _ _ _ _ _ _ _ _ _
  · rw [dif_neg h1]
    by_cases h2 : (p : ℕ) - 128 < 128
    · rw [dif_pos h2]
      exact (lookup _ (hx k _) (fun i => x2 (ix3 0 k i)) _ _ _ _ _ _ _ _ _ _ _).trans (move ⟨128 + (p - 128), by omega⟩ (Fin.ext (by dsimp only; omega)))
    · rw [dif_neg h2]
      exact (lookup _ (hx k _) (fun i => x2 (ix3 0 k i)) _ _ _ _ _ _ _ _ _ _ _).trans (move ⟨256 + (p - 128 - 128), by omega⟩ (Fin.ext (by dsimp only; omega)))

theorem wLow_apply (hx : InRange x0) (p : Fin 384) (k : Fin 4) :
    wLow x0 x1 x2 (ix2 p k) = if 640 ≤ (row hx k p).val then 0 else weight x0 x1 x2 hx k p := by
  unfold wLow
  pointwise [k0_pay42, k0_pay40]
  rw [weight_apply x0 x1 x2 hx, k0_pay3]
  pointwise
  exact select_upper _ (hx k p) _ _

theorem wHigh_apply (hx : InRange x0) (p : Fin 384) (k : Fin 4) :
    wHigh x0 x1 x2 (ix2 p k) = if 640 ≤ (row hx k p).val then weight x0 x1 x2 hx k p else 0 := by
  unfold wHigh
  pointwise [k0_pay43, k0_pay40]
  rw [weight_apply x0 x1 x2 hx, k0_pay3]
  pointwise
  exact select_upper _ (hx k p) _ _

end Cert.KernelIdeal.Step
-- ==== Proof.QueryStep.lean ====
/-
  One step's contribution to the query gradient, read at a pair and a column: each of the step's four documents adds the
  pair's weight times its row of codes. The kernel picks that row by a one-hot product with each half of the document; the
  half the index is not in has weight zero.
-/
module

public import proofs.«01_k».proof.Proof.ScaleLookup

@[expose] public section

set_option maxRecDepth 16384

noncomputable section

namespace Cert.KernelIdeal.Step

open Cert.KernelIdeal Cert.KernelIdeal.Gen Idealize.ShloMosaic Cert.KernelIdeal.Words

/-- The one-hot row of an index's place, as the kernel concatenates it from five chunks of 128 lanes. -/
def oneHot (x : BitVec 32) (r : ℕ) : EReal :=
  if h : r < 128 then
    Scalar.select (IntOp.cmpi .eq (IntOp.addi (BitVec.setWidth 16 (BitVec.ofNat 32 r)) 0#16) (BitVec.setWidth 16 (place x))) 1 0
  else if h : r - 128 < 128 then
    Scalar.select (IntOp.cmpi .eq (IntOp.addi (BitVec.setWidth 16 (BitVec.ofNat 32 (r - 128))) 128#16) (BitVec.setWidth 16 (place x))) 1 0
  else if h : r - 128 - 128 < 128 then
    Scalar.select (IntOp.cmpi .eq (IntOp.addi (BitVec.setWidth 16 (BitVec.ofNat 32 (r - 128 - 128))) 256#16) (BitVec.setWidth 16 (place x))) 1 0
  else if h : r - 128 - 128 - 128 < 128 then
    Scalar.select (IntOp.cmpi .eq (IntOp.addi (BitVec.setWidth 16 (BitVec.ofNat 32 (r - 128 - 128 - 128))) 384#16) (BitVec.setWidth 16 (place x))) 1 0
  else
    Scalar.select (IntOp.cmpi .eq (IntOp.addi (BitVec.setWidth 16 (BitVec.ofNat 32 (r - 128 - 128 - 128 - 128))) 512#16) (BitVec.setWidth 16 (place x))) 1 0

theorem oneHot_eq (x : BitVec 32) (hx : x.toNat < 1280) (r : Fin 640) :
    oneHot x r.val = if r = ⟨(place x).toNat, place_lt x hx⟩ then 1 else 0 := by
  have hp := place_lt x hx
  have hr := r.isLt
  have e : (r = ⟨(place x).toNat, hp⟩) = (r.val = (place x).toNat) := by rw [Fin.ext_iff]
  simp only [e]
  unfold oneHot
  by_cases h1 : r.val < 128
  · rw [dif_pos h1]; exact select_lane r.val 0 _ (by omega) hp _ _
  rw [dif_neg h1]
  by_cases h2 : r.val - 128 < 128
  · rw [dif_pos h2, select_lane _ 128 _ (by omega) hp]; exact if_congr (by omega) rfl rfl
  rw [dif_neg h2]
  by_cases h3 : r.val - 128 - 128 < 128
  · rw [dif_pos h3, select_lane _ 256 _ (by omega) hp]; exact if_congr (by omega) rfl rfl
  rw [dif_neg h3]
  by_cases h4 : r.val - 128 - 128 - 128 < 128
  · rw [dif_pos h4, select_lane _ 384 _ (by omega) hp]; exact if_congr (by omega) rfl rfl
  rw [dif_neg h4, select_lane _ 512 _ (by omega) hp]; exact if_congr (by omega) rfl rfl

/-- A one-hot row times a half of a document is the half's row at the place. -/
theorem oneHot_sum (x : BitVec 32) (hx : x.toNat < 1280) (f : Fin 640 → EReal) :
    ∑ r : Fin 640, oneHot x r.val * f r = f ⟨(place x).toNat, place_lt x hx⟩ := by
  simp only [oneHot_eq x hx, ite_mul, one_mul, zero_mul]
  rw [Finset.sum_ite_eq' Finset.univ]
  exact if_pos (Finset.mem_univ _)

variable (x0 : Vec Ideal S1x4x384 .i32) (x1 : Vec Ideal S1x4x384 .f32) (x2 : Vec Ideal S1x4x1280 .f32)
  (x5 : Vec Ideal S4x1280x128 .fp8e4m3) (acc : Vec Ideal S384x128 .f32)

/-- The two halves' picks, weighted: the pair's weight times its row of codes. -/
theorem halves (hx : InRange x0) (k : Fin 4) (p : Fin 384) (c : Fin 128) (a : EReal) :
    a + ((∑ r : Fin 640, oneHot (x0 (ix3 0 k p)) r.val * x5 (ix3 k ⟨r.val, by omega⟩ c)) * wLow x0 x1 x2 (ix2 p k)
      + (∑ r : Fin 640, oneHot (x0 (ix3 0 k p)) r.val * x5 (ix3 k ⟨640 + r.val, by omega⟩ c)) * wHigh x0 x1 x2 (ix2 p k))
      = a + weight x0 x1 x2 hx k p * x5 (ix3 k (row hx k p) c) := by
  rw [oneHot_sum _ (hx k p) (fun r => x5 (ix3 k ⟨r.val, by omega⟩ c)), oneHot_sum _ (hx k p) (fun r => x5 (ix3 k ⟨640 + r.val, by omega⟩ c)),
    wLow_apply x0 x1 x2 hx, wHigh_apply x0 x1 x2 hx]
  have hpl := place_toNat _ (hx k p)
  have e : (row hx k p).val = BitVec.toNat (w := 32) (x0 (ix3 0 k p)) := rfl
  by_cases h : 640 ≤ (row hx k p).val
  · rw [if_pos h, if_pos h, mul_zero, zero_add, mul_comm]
    rw [e] at h
    rw [if_pos h] at hpl
    exact congrArg (fun r => a + weight x0 x1 x2 hx k p * x5 (ix3 k r c)) (Fin.ext (by dsimp only; omega))
  · rw [if_neg h, if_neg h, mul_zero, add_zero, mul_comm]
    rw [e] at h
    rw [if_neg h] at hpl
    exact congrArg (fun r => a + weight x0 x1 x2 hx k p * x5 (ix3 k r c)) (Fin.ext (by dsimp only; omega))

theorem acc0_apply (hx : InRange x0) (p : Fin 384) (c : Fin 128) :
    acc0 x0 x1 x2 x5 acc (ix2 p c) = acc (ix2 p c) + weight x0 x1 x2 hx 0 p * x5 (ix3 0 (row hx 0 p) c) := by
  unfold acc0
  unfold_payloads
  pointwise
  exact halves x0 x1 x2 x5 hx 0 p c _

theorem acc1_apply (hx : InRange x0) (p : Fin 384) (c : Fin 128) :
    acc1 x0 x1 x2 x5 acc (ix2 p c) = acc (ix2 p c) + weight x0 x1 x2 hx 1 p * x5 (ix3 1 (row hx 1 p) c) := by
  unfold acc1
  unfold_payloads
  pointwise
  exact halves x0 x1 x2 x5 hx 1 p c _

theorem acc2_apply (hx : InRange x0) (p : Fin 384) (c : Fin 128) :
    acc2 x0 x1 x2 x5 acc (ix2 p c) = acc (ix2 p c) + weight x0 x1 x2 hx 2 p * x5 (ix3 2 (row hx 2 p) c) := by
  unfold acc2
  unfold_payloads
  pointwise
  exact halves x0 x1 x2 x5 hx 2 p c _

theorem acc3_apply (hx : InRange x0) (p : Fin 384) (c : Fin 128) :
    acc3 x0 x1 x2 x5 acc (ix2 p c) = acc (ix2 p c) + weight x0 x1 x2 hx 3 p * x5 (ix3 3 (row hx 3 p) c) := by
  unfold acc3
  unfold_payloads
  pointwise
  exact halves x0 x1 x2 x5 hx 3 p c _

/-- A STEP OF THE QUERY GRADIENT: its four documents' terms. -/
theorem stepAcc_apply (hx : InRange x0) (p : Fin 384) (c : Fin 128) :
    stepAcc x0 x1 x2 x5 acc (ix2 p c)
      = acc (ix2 p c) + ∑ k : Fin 4, weight x0 x1 x2 hx k p * x5 (ix3 k (row hx k p) c) := by
  unfold stepAcc
  rw [acc3_apply x0 x1 x2 x5 _ hx, acc2_apply x0 x1 x2 x5 _ hx, acc1_apply x0 x1 x2 x5 _ hx, acc0_apply x0 x1 x2 x5 _ hx, Fin.sum_univ_four]
  simp only [add_assoc]

end Cert.KernelIdeal.Step
-- ==== Proof.KernelQuery.lean ====
/-
  The kernel's query gradient after the run: the accumulator starts at zero, every step adds its four documents' terms, and
  the last step writes it out. So the result at row `p` and column `c` is the sum over all documents.
-/
module

public import proofs.«01_k».proof.Proof.Inputs
public import proofs.«01_k».proof.Proof.QueryStep
public import proofs.«01_k».proof.Proof.Gen.KernelIdeal.Value

@[expose] public section

set_option maxRecDepth 16384

noncomputable section

namespace Cert.KernelIdeal.Query

open Cert.KernelIdeal Cert.KernelIdeal.Gen Idealize.ShloMosaic Idealize.ShloMosaic.TcCoe Idealize.SL.Sem
open Cert.KernelIdeal.Step Cert.KernelIdeal.Inputs Cert.Spec

variable (m : (ℓ : Loc nD τ sig) → Buf (Elt Ideal) ℓ) (c : Dev nD)

/-- Row numbers in the index array are row numbers in each step's block. -/
theorem inRange (hx : RowNumbers (m ((c : Thread nD τ).loc main_arg4))) (t : Fin cfg0.N) : InRange (iblk m c 0 t) := by
  intro k p
  rw [in0]
  exact hx _ _ _

/-- The row a step looks up is the chosen one. -/
theorem row_eq (hx : RowNumbers (m ((c : Thread nD τ).loc main_arg4))) (t : Fin cfg0.N) (k : Fin 4) (p : Fin 384) :
    row (inRange m c hx t) k p = chosen (m ((c : Thread nD τ).loc main_arg4)) (batch p) (doc t k) (line p) := by
  apply Fin.ext
  rw [chosen_val hx]
  show BitVec.toNat (w := 32) (iblk m c 0 t (ix3 0 k p)) = _
  rw [in0]

/-- What step `t` adds. -/
def term (t : Fin cfg0.N) (i : S384x128.Idx) : EReal :=
  stepAcc (iblk m c 0 t) (iblk m c 1 t) (iblk m c 2 t) (iblk m c 5 t) (fun _ => (0 : EReal)) i

/-- A step adds its term to what it finds. -/
theorem stepAcc_term (hx : RowNumbers (m ((c : Thread nD τ).loc main_arg4))) (t : Fin cfg0.N) (acc : FVec Ideal S384x128 .f32) (i : S384x128.Idx) :
    stepAcc (iblk m c 0 t) (iblk m c 1 t) (iblk m c 2 t) (iblk m c 5 t) acc i = (acc i : EReal) + term m c t i := by
  unfold term
  idx_vars i
  rw [stepAcc_apply _ _ _ _ _ (inRange m c hx t), stepAcc_apply _ _ _ _ _ (inRange m c hx t), zero_add]

theorem zero_block (i : S384x128.Idx) : k0_pay2 (F := Ideal) i = (0 : EReal) := by
  idx_vars i
  unfold k0_pay2
  pointwise

/-- The accumulator after the last step. -/
theorem acc_last (hx : RowNumbers (m ((c : Thread nD τ).loc main_arg4))) (t : Fin cfg0.N) (ht : t.val + 1 = cfg0.N) (i : S384x128.Idx) :
    (outsAt0 m c t.val t.isLt).2.2 i = (0 : EReal) + ∑ s : Fin cfg0.N, term m c s i := by
  rw [Pipeline.eq_sum_fin_of_reset_step_apply_last (fun n h => (outsAt0 m c n h).2.2) 381 (fun _ => (0 : EReal)) (term m c)
    (fun s h j => by
      rw [outsAt0_A m c s h (by omega)]
      dsimp only
      rw [acc_A, stepAcc_term m c hx, zero_block])
    (fun s h j => by
      by_cases h1 : s.val % 381 = 380
      · rw [outsAt0_C m c s h h1]
        dsimp only
        rw [acc_C, stepAcc_term m c hx]
      · rw [outsAt0_B m c s h h1]
        dsimp only
        rw [acc_B, stepAcc_term m c hx])
    (le_of_eq N_0) t ht i]

/-- The last step writes the accumulator out. -/
theorem out_last (t : Fin cfg0.N) (ht : t.val % 381 = 380) (i : S384x128.Idx) :
    ((outsAt0 m c t.val t.isLt).1 i : EReal) = (outsAt0 m c t.val t.isLt).2.2 i := by
  rw [outsAt0_C m c t (by omega) ht]
  dsimp only
  rw [query_C, acc_C]
  idx_vars i
  unfold k0_pay1
  pointwise

/-- The result array is what the last step leaves. -/
theorem result_last (t : Fin cfg0.N) (ht : t.val + 1 = cfg0.N) : Value.G6 m c = (outsAt0 m c t.val t.isLt).1 := by
  have e : 380 = t.val := by
    have := ht.trans (show cfg0.N = 381 from N_0)
    omega
  rw [Value.outsAt0_sweep, Value.G6_last, Value.fold0_congr m c 380 _ t.val _ e]

/-- A step's term, in the arguments' entries. -/
theorem term_apply (hx : RowNumbers (m ((c : Thread nD τ).loc main_arg4))) (t : Fin cfg0.N) (p : Fin 384) (j : Fin 128) :
    term m c t (ix2 p j) = ∑ k : Fin 4,
      queryTerm (m ((c : Thread nD τ).loc main_arg2)) (m ((c : Thread nD τ).loc main_arg3)) (m ((c : Thread nD τ).loc main_arg4))
        (m ((c : Thread nD τ).loc main_arg5)) (batch p) (line p) j (doc t k) := by
  unfold term
  rw [stepAcc_apply _ _ _ _ _ (inRange m c hx t), zero_add]
  refine Finset.sum_congr rfl fun k _ => ?_
  unfold weight queryTerm
  rw [row_eq m c hx, in1, in2, in5]
  exact mul_swap _ _ _

/-- The steps' documents are all documents. -/
theorem sum_docs (f : Fin 1524 → EReal) : ∑ t : Fin cfg0.N, ∑ k : Fin 4, f (doc t k) = ∑ n : Fin 1524, f n :=
  Fin.sum_mul_add_congr (fun _ _ _ => rfl) (by rw [show cfg0.N = 381 from N_0])

/-- THE KERNEL'S QUERY GRADIENT at row `p` and column `j`. -/
theorem result (hx : RowNumbers (m ((c : Thread nD τ).loc main_arg4))) (p : Fin 384) (j : Fin 128) :
    (Value.G6 m c (ix2 p j) : EReal)
      = queryGrad (m ((c : Thread nD τ).loc main_arg2)) (m ((c : Thread nD τ).loc main_arg3)) (m ((c : Thread nD τ).loc main_arg4))
          (m ((c : Thread nD τ).loc main_arg5)) (batch p) (line p) j := by
  obtain ⟨t, ht⟩ : ∃ t : Fin cfg0.N, t.val + 1 = cfg0.N := ⟨⟨380, lt_of_lt_of_eq (by decide) N_0.symm⟩, N_0.symm⟩
  have hm : t.val % 381 = 380 := by
    have := ht.trans (show cfg0.N = 381 from N_0)
    omega
  rw [result_last m c t ht, out_last m c t hm, acc_last m c hx t ht, zero_add]
  have e : ∑ s : Fin cfg0.N, term m c s (ix2 p j)
      = queryGrad (m ((c : Thread nD τ).loc main_arg2)) (m ((c : Thread nD τ).loc main_arg3)) (m ((c : Thread nD τ).loc main_arg4))
          (m ((c : Thread nD τ).loc main_arg5)) (batch p) (line p) j := by
    unfold queryGrad
    rw [← sum_docs]
    exact Finset.sum_congr rfl fun s _ => term_apply m c hx s p j
  exact e

end Cert.KernelIdeal.Query

end
-- ==== Proof.DocStep.lean ====
/-
  One step's document gradients, read at a document, a row and a column: the sum, over the pairs whose index is that row, of
  score times query scale times query code. The kernel forms each half of a document as a product of a masked score matrix
  with the query codes, which it mirrors into two halves: `q · upper` for the upper half and `q − q · upper` for the lower;
  the query codes are finite, so that the difference is zero where the index lies in the upper half.
-/
module

public import proofs.«01_k».proof.Proof.ScaleLookup

@[expose] public section

set_option maxRecDepth 16384

noncomputable section

namespace Cert.KernelIdeal.Step

open Cert.KernelIdeal Cert.KernelIdeal.Gen Idealize.ShloMosaic Cert.KernelIdeal.Words

variable (x0 : Vec Ideal S1x4x384 .i32) (x1 : Vec Ideal S1x4x384 .f32) (x3 : Vec Ideal S1x384 .f32) (x4 : Vec Ideal S384x128 .bf16)

/-- The masked score of pair `p` at row `r` of a half, as the kernel concatenates it from three chunks of 128 pairs. -/
def masked (k : Fin 4) (r : ℕ) (p : Fin 384) : EReal :=
  if h : (p : ℕ) < 128 then
    Scalar.select (IntOp.cmpi .eq (BitVec.setWidth 16 (BitVec.ofNat 32 r)) (BitVec.setWidth 16 (place (x0 (ix3 0 k ⟨p, by omega⟩)))))
      (x1 (ix3 0 k p) * x3 (ix2 0 p)) 0
  else if h : (p : ℕ) - 128 < 128 then
    Scalar.select (IntOp.cmpi .eq (BitVec.setWidth 16 (BitVec.ofNat 32 r)) (BitVec.setWidth 16 (place (x0 (ix3 0 k ⟨128 + (p - 128), by omega⟩)))))
      (x1 (ix3 0 k ⟨128 + (p - 128), by omega⟩) * x3 (ix2 0 ⟨128 + (p - 128), by omega⟩)) 0
  else
    Scalar.select (IntOp.cmpi .eq (BitVec.setWidth 16 (BitVec.ofNat 32 r)) (BitVec.setWidth 16 (place (x0 (ix3 0 k ⟨256 + (p - 128 - 128), by omega⟩)))))
      (x1 (ix3 0 k ⟨256 + (p - 128 - 128), by omega⟩) * x3 (ix2 0 ⟨256 + (p - 128 - 128), by omega⟩)) 0

theorem masked_eq (hx : InRange x0) (k : Fin 4) (r : ℕ) (hr : r < 640) (p : Fin 384) :
    masked x0 x1 x3 k r p = if r = (place (x0 (ix3 0 k p))).toNat then x1 (ix3 0 k p) * x3 (ix2 0 p) else 0 := by
  have key : ∀ p' : Fin 384, p' = p →
      Scalar.select (IntOp.cmpi .eq (BitVec.setWidth 16 (BitVec.ofNat 32 r)) (BitVec.setWidth 16 (place (x0 (ix3 0 k p')))))
        (x1 (ix3 0 k p') * x3 (ix2 0 p')) (0 : EReal)
        = if r = (place (x0 (ix3 0 k p))).toNat then x1 (ix3 0 k p) * x3 (ix2 0 p) else 0 := fun p' e => by
    subst e; exact select_row r _ hr (place_lt _ (hx k p')) _ _
  unfold masked
  by_cases h1 : (p : ℕ) < 128
  · rw [dif_pos h1]; exact key p rfl
  rw [dif_neg h1]
  by_cases h2 : (p : ℕ) - 128 < 128
  · rw [dif_pos h2]; exact key ⟨128 + (p - 128), by omega⟩ (Fin.ext (by dsimp only; omega))
  rw [dif_neg h2]; exact key ⟨256 + (p - 128 - 128), by omega⟩ (Fin.ext (by dsimp only; omega))

/-- The gradient of document `k` at row `s` and column `c`: the pairs whose index is `s`. -/
def docGrad (hx : InRange x0) (k : Fin 4) (s : ℕ) (c : Fin 128) : EReal :=
  ∑ p : Fin 384, if (row hx k p).val = s then x1 (ix3 0 k p) * x3 (ix2 0 p) * x4 (ix2 p c) else 0

/-- The lower half: the mirrored codes are `q − q · upper`. -/
theorem low_half (hx : InRange x0) (hq : ∀ i, x4 i ≠ ⊤ ∧ x4 i ≠ ⊥) (k : Fin 4) (r : ℕ) (hr : r < 640) (c : Fin 128) :
    ∑ p : Fin 384, masked x0 x1 x3 k r p
      * (x4 (ix2 p c) - Scalar.select (IntOp.cmpi .sge (x0 (ix3 0 k p)) 640#32) (x4 (ix2 p c)) 0) = docGrad x0 x1 x3 x4 hx k r c := by
  refine Finset.sum_congr rfl fun p _ => ?_
  rw [masked_eq x0 x1 x3 hx k r hr, select_upper _ (hx k p)]
  have hpl := place_toNat _ (hx k p)
  have e : (row hx k p).val = BitVec.toNat (w := 32) (x0 (ix3 0 k p)) := rfl
  rw [← e]
  by_cases h : 640 ≤ (row hx k p).val
  · rw [if_pos h, EReal.sub_self (hq _).1 (hq _).2, mul_zero, if_neg (by omega)]
  · rw [if_neg h, sub_zero, hpl, ← e, if_neg h, ite_mul, zero_mul]
    exact if_congr eq_comm rfl rfl

/-- The upper half: the mirrored codes are `q · upper`. -/
theorem high_half (hx : InRange x0) (k : Fin 4) (r : ℕ) (hr : r < 640) (c : Fin 128) :
    ∑ p : Fin 384, Scalar.select (IntOp.cmpi .sge (x0 (ix3 0 k p)) 640#32) (masked x0 x1 x3 k r p * x4 (ix2 p c)) 0
      = docGrad x0 x1 x3 x4 hx k (640 + r) c := by
  refine Finset.sum_congr rfl fun p _ => ?_
  rw [masked_eq x0 x1 x3 hx k r hr, select_upper _ (hx k p)]
  have hpl := place_toNat _ (hx k p)
  have e : (row hx k p).val = BitVec.toNat (w := 32) (x0 (ix3 0 k p)) := rfl
  rw [← e]
  by_cases h : 640 ≤ (row hx k p).val
  · rw [if_pos h, hpl, ← e, if_pos h, ite_mul, zero_mul]
    exact if_congr (by omega) rfl rfl
  · rw [if_neg h, if_neg (by omega)]

variable {x0 x1 x3 x4} in
/-- The gradient at equal places. -/
theorem at_place (hx : InRange x0) {k : Fin 4} (n : Fin 4) {s r : ℕ} {c d : Fin 128} (hk : k.val = n.val) (hs : s = r) (hc : c.val = d.val) :
    docGrad x0 x1 x3 x4 hx n r d = docGrad x0 x1 x3 x4 hx k s c := by
  rw [Fin.ext hk, hs, Fin.ext hc]

/-- THE STEP'S DOCUMENT GRADIENTS at document `k`, row `s`, column `c`. -/
theorem docBlock_apply (hx : InRange x0) (hq : ∀ i, x4 i ≠ ⊤ ∧ x4 i ≠ ⊥) (k : Fin 4) (s : Fin 1280) (c : Fin 128) :
    docBlock x0 x1 x3 x4 (ix3 k s c) = docGrad x0 x1 x3 x4 hx k s.val c := by
  unfold docBlock
  canon_tiles y h
  all_goals (
    idx_vars y
    unfold_payloads
    pointwise)
  case piece0 => exact (high_half x0 x1 x3 x4 hx 3 y1.val y1_lt _).trans (at_place hx _ (by omega) h1 h2)
  case piece1 => exact (low_half x0 x1 x3 x4 hx hq 3 y1.val y1_lt _).trans (at_place hx _ (by omega) h1 h2)
  case piece2 => exact (high_half x0 x1 x3 x4 hx 2 y1.val y1_lt _).trans (at_place hx _ (by omega) h1 h2)
  case piece3 => exact (low_half x0 x1 x3 x4 hx hq 2 y1.val y1_lt _).trans (at_place hx _ (by omega) h1 h2)
  case piece4 => exact (high_half x0 x1 x3 x4 hx 1 y1.val y1_lt _).trans (at_place hx _ (by omega) h1 h2)
  case piece5 => exact (low_half x0 x1 x3 x4 hx hq 1 y1.val y1_lt _).trans (at_place hx _ (by omega) h1 h2)
  case piece6 => exact (high_half x0 x1 x3 x4 hx 0 y1.val y1_lt _).trans (at_place hx _ (by omega) h1 h2)
  case piece7 => exact (low_half x0 x1 x3 x4 hx hq 0 y1.val y1_lt _).trans (at_place hx _ (by omega) h1 h2)

end Cert.KernelIdeal.Step
-- ==== Proof.KernelDoc.lean ====
/-
  The kernel's document gradients after the run: step `t` writes the gradients of its own four documents, so the result at
  document `n` is what step `n / 4` wrote at document `n % 4`.
-/
module

public import proofs.«01_k».proof.Proof.KernelQuery
public import proofs.«01_k».proof.Proof.DocStep

@[expose] public section

set_option maxRecDepth 16384

noncomputable section

namespace Cert.KernelIdeal.Doc

open Cert.KernelIdeal Cert.KernelIdeal.Gen Idealize.ShloMosaic Idealize.ShloMosaic.TcCoe Idealize.SL.Sem
open Cert.KernelIdeal.Step Cert.KernelIdeal.Inputs Cert.Spec Cert.KernelIdeal.Query

variable (m : (ℓ : Loc nD τ sig) → Buf (Elt Ideal) ℓ) (c : Dev nD)

/-- What step `t` leaves in the document gradients' block. -/
theorem outs_eq (t : Fin cfg0.N) :
    (outsAt0 m c t.val t.isLt).2.1 = docBlock (iblk m c 0 t) (iblk m c 1 t) (iblk m c 3 t) (iblk m c 4 t) := by
  by_cases h0 : t.val % 381 = 0
  · rw [outsAt0_A m c t h0 (by omega)]
    dsimp only
    rw [doc_A]
  · by_cases h1 : t.val % 381 = 380
    · rw [outsAt0_C m c t h0 h1]
      dsimp only
      rw [doc_C]
    · rw [outsAt0_B m c t h0 h1]
      dsimp only
      rw [doc_B]

/-- The query codes of a step's block are finite where the argument's are. -/
theorem finite_in4 (hq : Finite (m ((c : Thread nD τ).loc main_arg0))) (t : Fin cfg0.N) :
    Finite (iblk m c 4 t : FVec Ideal S384x128 .bf16) := by
  intro i
  idx_vars i
  rw [in4]
  exact hq _

/-- A step's block, in the arguments' entries. -/
theorem block_apply (hx : RowNumbers (m ((c : Thread nD τ).loc main_arg4)))
    (hq : Finite (m ((c : Thread nD τ).loc main_arg0)))
    (t : Fin cfg0.N) (k : Fin 4) (s : Fin 1280) (j : Fin 128) :
    ((outsAt0 m c t.val t.isLt).2.1 (ix3 k s j) : EReal)
      = Spec.docGrad (m ((c : Thread nD τ).loc main_arg0)) (m ((c : Thread nD τ).loc main_arg1)) (m ((c : Thread nD τ).loc main_arg4))
          (m ((c : Thread nD τ).loc main_arg5)) (doc t k) s j := by
  rw [outs_eq, docBlock_apply _ _ _ _ (inRange m c hx t) (finite_in4 m c hq t)]
  unfold Step.docGrad Spec.docGrad docTerm
  refine Fin.sum_divmod_congr fun p hb hl => ?_
  rw [row_eq m c hx, in1, in3, in4, mul_swap]
  exact if_congr Fin.ext_iff.symm rfl rfl

/-- THE KERNEL'S DOCUMENT GRADIENT at document `n`, row `s`, column `j`. -/
theorem result (hx : RowNumbers (m ((c : Thread nD τ).loc main_arg4)))
    (hq : Finite (m ((c : Thread nD τ).loc main_arg0)))
    (n : Fin 1524) (s : Fin 1280) (j : Fin 128) :
    (Value.G7 m c (ix3 n s j) : EReal)
      = Spec.docGrad (m ((c : Thread nD τ).loc main_arg0)) (m ((c : Thread nD τ).loc main_arg1)) (m ((c : Thread nD τ).loc main_arg4))
          (m ((c : Thread nD τ).loc main_arg5)) n s j := by
  have hp : Value.pt7Of (ix3 n s j) = n.val / 4 := by
    show 1 * (n.val / 4 - 0) + 1 * (s.val / 1280 - 0) + 1 * (j.val / 128 - 0) = _
    omega
  have hlt : n.val / 4 < cfg0.N := lt_of_lt_of_eq (by omega) N_0.symm
  have hl : Value.loc7Of (ix3 n s j) = ix3 (⟨n.val % 4, by omega⟩ : Fin 4) s j := by
    funext a; apply Fin.ext
    match a with
    | ⟨0, _⟩ => rfl
    | ⟨1, _⟩ => show s.val % 1280 = s.val; omega
    | ⟨2, _⟩ => show j.val % 128 = j.val; omega
  obtain ⟨t, ht⟩ : ∃ t : Fin cfg0.N, t.val = n.val / 4 := ⟨⟨n.val / 4, hlt⟩, rfl⟩
  have hd : doc t ⟨n.val % 4, by omega⟩ = n := by
    apply Fin.ext
    show t.val * 4 + n.val % 4 = n.val
    omega
  have e := block_apply m c hx hq t ⟨n.val % 4, by omega⟩ s j
  rw [hd] at e
  rw [← e, Value.outsAt0_sweep]
  unfold Value.G7
  rw [dif_pos (by rw [hp]; exact hlt), hl, Value.fold0_congr m c _ _ t.val _ (hp.trans ht.symm)]

end Cert.KernelIdeal.Doc

end
-- ==== Proof.RefIndex.lean ====
/-
  The reference's two gathers and its scatter, at an index. Their index array holds, for every batch `b`, document `n` and
  query line `i`, the pair (document number, row number). At a pair inside the table a gather reads the table's row there;
  an update of the scatter lands at the table's row there.
-/
module

public import proofs.«01_k».proof.ReferenceIdeal
public import Idealize.ShloMosaic.Lib.Pointwise
public import Idealize.ShloMosaic.Lib.Routing.OpsPair

@[expose] public section

set_option maxRecDepth 16384

noncomputable section

namespace Cert.ReferenceIdeal.RefIndex

open Cert.ReferenceIdeal Idealize.ShloMosaic

variable [Facts₀]

/-- The dimension numbers of the gather of code rows, of the gather of scales, and of the scatter. -/
abbrev codesAt := gather_S1524x1280x128_S12x1524x32x2_S12x1524x32x128_3_01_n_n_01_3_11128
@[inherit_doc codesAt] abbrev scalesAt := gather_S1524x1280_S12x1524x32x2_S12x1524x32_n_01_n_n_01_3_11
@[inherit_doc codesAt] abbrev landing := scatter_S1524x1280x128_S12x1524x32x2_S12x1524x32x128_3_01_01_3

/-- The gather of code rows. -/
theorem gather_codes {α : Type} (x : S1524x1280x128.Idx → α) (idx : IVec S12x1524x32x2 32) (b : Fin 12) (n : Fin 1524) (i : Fin 32)
    (c : Fin 128) (n' : Fin 1524) (r : Fin 1280) (h0 : (idx (ix4 b n i 0)).toInt = n'.val) (h1 : (idx (ix4 b n i 1)).toInt = r.val) :
    Host.gather codesAt x idx (ix4 b n i c) = x (ix3 n' r c) := by
  unfold Host.gather
  congr 1
  funext a
  apply Fin.ext
  match a with
  | ⟨0, _⟩ =>
    show min (idx _).toInt.toNat 1523 + 0 + 0 = n'.val
    rw [show GatherDims.siIdx codesAt (ix4 b n i c) _ = ix4 b n i 0 from ?_, h0]
    · have := n'.isLt
      omega
    · funext q
      match q with
      | ⟨0, _⟩ => rfl
      | ⟨1, _⟩ => rfl
      | ⟨2, _⟩ => rfl
      | ⟨3, _⟩ => rfl
  | ⟨1, _⟩ =>
    show min (idx _).toInt.toNat 1279 + 0 + 0 = r.val
    rw [show GatherDims.siIdx codesAt (ix4 b n i c) _ = ix4 b n i 1 from ?_, h1]
    · have := r.isLt
      omega
    · funext q
      match q with
      | ⟨0, _⟩ => rfl
      | ⟨1, _⟩ => rfl
      | ⟨2, _⟩ => rfl
      | ⟨3, _⟩ => rfl
  | ⟨2, _⟩ =>
    show 0 + 0 + c.val = c.val
    omega

/-- The gather of scales. -/
theorem gather_scales {α : Type} (x : S1524x1280.Idx → α) (idx : IVec S12x1524x32x2 32) (b : Fin 12) (n : Fin 1524) (i : Fin 32)
    (n' : Fin 1524) (r : Fin 1280) (h0 : (idx (ix4 b n i 0)).toInt = n'.val) (h1 : (idx (ix4 b n i 1)).toInt = r.val) :
    Host.gather scalesAt x idx (ix3 b n i) = x (ix2 n' r) := by
  unfold Host.gather
  congr 1
  funext a
  apply Fin.ext
  match a with
  | ⟨0, _⟩ =>
    show min (idx _).toInt.toNat 1523 + 0 + 0 = n'.val
    rw [show GatherDims.siIdx scalesAt (ix3 b n i) _ = ix4 b n i 0 from ?_, h0]
    · have := n'.isLt
      omega
    · funext q
      match q with
      | ⟨0, _⟩ => rfl
      | ⟨1, _⟩ => rfl
      | ⟨2, _⟩ => rfl
      | ⟨3, _⟩ => rfl
  | ⟨1, _⟩ =>
    show min (idx _).toInt.toNat 1279 + 0 + 0 = r.val
    rw [show GatherDims.siIdx scalesAt (ix3 b n i) _ = ix4 b n i 1 from ?_, h1]
    · have := r.isLt
      omega
    · funext q
      match q with
      | ⟨0, _⟩ => rfl
      | ⟨1, _⟩ => rfl
      | ⟨2, _⟩ => rfl
      | ⟨3, _⟩ => rfl

/-- Where an update of the scatter lands. -/
theorem lands (idx : IVec S12x1524x32x2 32) (b : Fin 12) (n : Fin 1524) (i : Fin 32) (c : Fin 128)
    (n' : Fin 1524) (s : Fin 1280) (c' : Fin 128) :
    ScatterDims.resultIdx? landing (ix4 b n i c) idx = some (ix3 n' s c')
      ↔ (idx (ix4 b n i 0)).toInt = n'.val ∧ (idx (ix4 b n i 1)).toInt = s.val ∧ c = c' := by
  rw [Routing.resultIdx?_eq_some]
  have e0 : ScatterDims.start landing (ix4 b n i c) idx 0 = (idx (ix4 b n i 0)).toInt := by
    show (idx _).toInt = _
    congr 2
    funext q
    match q with
    | ⟨0, _⟩ => rfl
    | ⟨1, _⟩ => rfl
    | ⟨2, _⟩ => rfl
    | ⟨3, _⟩ => rfl
  have e1 : ScatterDims.start landing (ix4 b n i c) idx 1 = (idx (ix4 b n i 1)).toInt := by
    show (idx _).toInt = _
    congr 2
    funext q
    match q with
    | ⟨0, _⟩ => rfl
    | ⟨1, _⟩ => rfl
    | ⟨2, _⟩ => rfl
    | ⟨3, _⟩ => rfl
  have e2 : ScatterDims.start landing (ix4 b n i c) idx 2 = 0 := rfl
  have w0 : ScatterDims.window landing (ix4 b n i c) 0 = 0 := rfl
  have w1 : ScatterDims.window landing (ix4 b n i c) 1 = 0 := rfl
  have w2 : ScatterDims.window landing (ix4 b n i c) 2 = c.val := rfl
  constructor
  · intro h
    have h0 := h 0
    have h1 := h 1
    have h2 := h 2
    rw [e0, w0] at h0
    rw [e1, w1] at h1
    rw [e2, w2] at h2
    refine ⟨by simpa using h0, by simpa using h1, Fin.ext ?_⟩
    have h2' : (0 : Int) + (c.val : Int) = (c'.val : Int) := h2
    omega
  · rintro ⟨h0, h1, rfl⟩
    have g0 : ScatterDims.start landing (ix4 b n i c) idx 0 + (ScatterDims.window landing (ix4 b n i c) 0 : Int) = (n'.val : Int) := by
      rw [e0, w0, h0]
      simp
    have g1 : ScatterDims.start landing (ix4 b n i c) idx 1 + (ScatterDims.window landing (ix4 b n i c) 1 : Int) = (s.val : Int) := by
      rw [e1, w1, h1]
      simp
    have g2 : ScatterDims.start landing (ix4 b n i c) idx 2 + (ScatterDims.window landing (ix4 b n i c) 2 : Int) = (c.val : Int) := by
      rw [e2, w2]
      simp
    intro a
    match a with
    | ⟨0, _⟩ => exact g0
    | ⟨1, _⟩ => exact g1
    | ⟨2, _⟩ => exact g2

end Cert.ReferenceIdeal.RefIndex

end
-- ==== Proof.RefRun.lean ====
/-
  The reference's buffers before its last lines: the index pairs, the gathered rows and scales, and the gathered rows widened
  by its one region, each read at an index.
-/
module

public import proofs.«01_k».proof.Proof.Spec
public import proofs.«01_k».proof.Proof.RefIndex
public import proofs.«01_k».proof.Proof.Gen.ReferenceIdeal.Frame
public import Idealize.ShloMosaic.Lib.Pipeline.ValueKit.Point
public import Idealize.ShloMosaic.Lib.Pipeline.ValueKit.Tiles
public import Idealize.ShloMosaic.Lib.Claim
public import Idealize.ShloMosaic.Lib.Pointwise
public import Idealize.ShloMosaic.Lib.StableHlo.Predicate
public import Idealize.ShloMosaic.Lib.StableHlo.ReadAt

@[expose] public section

set_option maxRecDepth 16384

noncomputable section

namespace Cert.ReferenceIdeal.RefRun

open Cert.ReferenceIdeal Cert.ReferenceIdeal.Gen Idealize.ShloMosaic Idealize.ShloMosaic.TcCoe Idealize.SL.Sem
open Cert.Spec Cert.ReferenceIdeal.RefIndex

/-- jnp's wrap of a document number leaves it as it is. -/
theorem wrap_doc (n : Fin 1524) (a : BitVec 32) :
    (Scalar.select (IntOp.cmpi .slt (BitVec.ofNat 32 n.val) 0#32) a (BitVec.ofNat 32 n.val)).toInt = n.val := by
  have e : (BitVec.ofNat 32 n.val).toNat = n.val := by
    rw [BitVec.toNat_ofNat]
    have := n.isLt
    omega
  rw [Routing.wrap_of_lt _ _ (by rw [e]; have := n.isLt; omega), StableHlo.Predicate.toInt_eq_toNat_of_lt (by rw [e]; have := n.isLt; omega), e]

/-- jnp's wrap of a row number leaves it as it is. -/
theorem wrap_row {a4 : IVec ⟨3, ![12, 1524, 32]⟩ 32} (h : RowNumbers a4) (b : Fin 12) (n : Fin 1524) (i : Fin 32) (a : BitVec 32) :
    BitVec.toInt (n := 32) (Scalar.select (IntOp.cmpi .slt (a4 (ix3 b n i)) 0#32) a (a4 (ix3 b n i))) = (chosen a4 b n i).val := by
  have e := h b n i
  rw [Routing.wrap_of_lt _ _ (by omega), chosen_val h]
  exact StableHlo.Predicate.toInt_eq_toNat_of_lt (by omega)

variable (m : (ℓ : Loc nD τ sig) → Buf (Elt Ideal) ℓ) (c : Dev nD)

/-! ## Before the region -/

/-- The first index array holds the document number, -/
theorem v15_doc (b : Fin 12) (n : Fin 1524) (i : Fin 32) :
    BitVec.toInt (n := 32) (V0 m c (Proc.devRef .tc main_v15) (ix4 b n i 0)) = n.val := by
  unfold V0
  after_reads_at
  exact wrap_doc n _

/-- and the row number. -/
theorem v15_row (hx : RowNumbers (m ((c : Thread nD τ).loc main_arg4))) (b : Fin 12) (n : Fin 1524) (i : Fin 32) :
    BitVec.toInt (n := 32) (V0 m c (Proc.devRef .tc main_v15) (ix4 b n i 1)) = (chosen (m ((c : Thread nD τ).loc main_arg4)) b n i).val := by
  unfold V0
  after_reads_at
  exact wrap_row hx b n i _

/-- The second index array is the first's equal. -/
theorem v30_doc (b : Fin 12) (n : Fin 1524) (i : Fin 32) :
    BitVec.toInt (n := 32) (V0 m c (Proc.devRef .tc main_v30) (ix4 b n i 0)) = n.val := by
  unfold V0
  after_reads_at
  exact wrap_doc n _

@[inherit_doc v30_doc]
theorem v30_row (hx : RowNumbers (m ((c : Thread nD τ).loc main_arg4))) (b : Fin 12) (n : Fin 1524) (i : Fin 32) :
    BitVec.toInt (n := 32) (V0 m c (Proc.devRef .tc main_v30) (ix4 b n i 1)) = (chosen (m ((c : Thread nD τ).loc main_arg4)) b n i).val := by
  unfold V0
  after_reads_at
  exact wrap_row hx b n i _

/-- The gathered rows are a gather of the codes at the first index array. -/
theorem v16_gather : V0 m c (Proc.devRef .tc main_v16)
    = Host.gather codesAt (V0 m c (Proc.devRef .tc main_arg2)) (V0 m c (Proc.devRef .tc main_v15)) := by
  unfold V0
  after_reads_simp

/-- The gathered rows. -/
theorem v16_apply (hx : RowNumbers (m ((c : Thread nD τ).loc main_arg4))) (b : Fin 12) (n : Fin 1524) (i : Fin 32) (j : Fin 128) :
    V0 m c (Proc.devRef .tc main_v16) (ix4 b n i j)
      = m ((c : Thread nD τ).loc main_arg2) (ix3 n (chosen (m ((c : Thread nD τ).loc main_arg4)) b n i) j) := by
  rw [v16_gather]
  exact (gather_codes _ _ b n i j _ _ (v15_doc m c b n i) (v15_row m c hx b n i)).trans (congrFun (V_main_arg2 m c) _)

/-- The gathered scales are a gather of the scales at the second index array. -/
theorem v31_gather : V0 m c (Proc.devRef .tc main_v31)
    = Host.gather scalesAt (V0 m c (Proc.devRef .tc main_arg3)) (V0 m c (Proc.devRef .tc main_v30)) := by
  unfold V0
  after_reads_simp

/-- The gathered scales. -/
theorem v31_apply (hx : RowNumbers (m ((c : Thread nD τ).loc main_arg4))) (b : Fin 12) (n : Fin 1524) (i : Fin 32) :
    V0 m c (Proc.devRef .tc main_v31) (ix3 b n i)
      = m ((c : Thread nD τ).loc main_arg3) (ix2 n (chosen (m ((c : Thread nD τ).loc main_arg4)) b n i)) := by
  rw [v31_gather]
  exact (gather_scales _ _ b n i _ _ (v30_doc m c b n i) (v30_row m c hx b n i)).trans (congrFun (V_main_arg3 m c) _)

/-- The document numbers. -/
theorem v1_apply (n : Fin 1524) : V0 m c (Proc.devRef .tc main_v1) (ix3 0 n 0) = BitVec.ofNat 32 n.val := by
  unfold V0
  after_reads_at

/-! ## After the region -/

/-- The buffers the region leaves. -/
def W : Valuation τ sig (Elt Ideal) :=
  Pipeline.withArrays (cfgs 0).spec c (V0 m c) fun w => (dats m 0 c).arrAt w (cfgs 0).N

theorem W_arg0 : W m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem W_arg1 : W m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem W_arg4 : W m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem W_arg5 : W m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem W_v1 : W m c (Proc.devRef .tc main_v1) = V0 m c (Proc.devRef .tc main_v1) :=
  Pipeline.withArrays_of_ne _ c (V0 m c) _ main_v1 (by exact (by decide : ∀ w, Pipeline.arrRef spec0 w ≠ main_v1))
theorem W_v31 : W m c (Proc.devRef .tc main_v31) = V0 m c (Proc.devRef .tc main_v31) :=
  Pipeline.withArrays_of_ne _ c (V0 m c) _ main_v31 (by exact (by decide : ∀ w, Pipeline.arrRef spec0 w ≠ main_v31))

/-- The region's payload is its block. -/
theorem payload_eq (x : FVec Ideal S12x1524x32x128 .fp8e4m3) (z : S12x1524x32x128.Idx) : (k0_pay1 (F := Ideal) x z : EReal) = x z := by
  idx_vars z
  unfold k0_pay1
  pointwise

/-- The one block of the region's input, read where its output's block writes. -/
theorem block_emb (t : Fin cfg0.N) (y : S12x1524x32x128.Idx) (X : FVec Ideal S12x1524x32x128 .fp8e4m3) :
    ((cfg0.win 0).blk t).view.read (Elt Ideal) X y = X (((View.whole main_v32).slice (win0_1.rect t)).emb y) := by
  blk_simp
  rfl

/-- The region widens the gathered rows: the same extended reals. -/
theorem widened : (dats m 0 c).arrAt 1 cfg0.N = (fun y => (V0 m c (Proc.devRef .tc main_v16) y : EReal)) := by
  refine (dats m 0 c).arrAt_eq_of_covers 1 _ (by decide +kernel) fun t hf y => ?_
  blk_simp
  rw [after0_1]
  frame_out
  exact (payload_eq _ y).trans (block_emb t y _)

theorem W_v32 : W m c (Proc.devRef .tc main_v32) = (dats m 0 c).arrAt 1 cfg0.N :=
  Pipeline.withArrays_arr spec0 (by decide) c (V0 m c) _ 1

end Cert.ReferenceIdeal.RefRun

end
-- ==== Proof.RefQuery.lean ====
/-
  The reference's first result: the gradients of the query lines.
-/
module

public import proofs.«01_k».proof.Proof.RefRun

@[expose] public section

set_option maxRecDepth 16384

noncomputable section

namespace Cert.ReferenceIdeal.RefQuery

open Cert.ReferenceIdeal Cert.ReferenceIdeal.Gen Idealize.ShloMosaic Idealize.ShloMosaic.TcCoe Idealize.SL.Sem
open Cert.Spec Cert.ReferenceIdeal.RefRun

/-- The last lines contract the score gradient with the scaled rows, over the documents. -/
theorem tail_apply (w : Valuation τ sig (Elt Ideal)) (p : Fin 384) (j : Fin 128) (a5 row scale : Fin 1524 → EReal)
    (h5 : ∀ n, w (Proc.devRef .tc main_arg5) (ix2 (batch p) n) = a5 n)
    (hr : ∀ n, w (Proc.devRef .tc main_v32) (ix4 (batch p) n (line p) j) = row n)
    (hs : ∀ n, w (Proc.devRef .tc main_v31) (ix3 (batch p) n (line p)) = scale n) :
    StableHlo.after [hostOps1].flatten w (Proc.devRef .tc main_v66) (ix2 p j) = ∑ n, a5 n * (row n * scale n) := by
  after_reads_at
  refine Finset.sum_congr rfl fun n _ => ?_
  rw [← h5, ← hr, ← hs]
  rfl

variable (m : (ℓ : Loc nD τ sig) → Buf (Elt Ideal) ℓ) (c : Dev nD)

/-- The first result, at a query row and a column. -/
theorem result (hx : RowNumbers (m ((c : Thread nD τ).loc main_arg4))) (p : Fin 384) (j : Fin 128) :
    (StableHlo.after [hostOps1].flatten (W m c) (Proc.devRef .tc main_v66) (ix2 p j) : EReal)
      = queryGrad (m ((c : Thread nD τ).loc main_arg2)) (m ((c : Thread nD τ).loc main_arg3)) (m ((c : Thread nD τ).loc main_arg4))
          (m ((c : Thread nD τ).loc main_arg5)) (batch p) (line p) j := by
  refine (tail_apply (W m c) p j _ _ _ (fun n => congrFun (W_arg5 m c) _)
    (fun n => (congrFun ((W_v32 m c).trans (widened m c)) _).trans (v16_apply m c hx _ _ _ _))
    (fun n => (congrFun (W_v31 m c) _).trans (v31_apply m c hx _ _ _))).trans ?_
  rfl

end Cert.ReferenceIdeal.RefQuery

end
-- ==== Proof.RefDoc.lean ====
/-
  The reference's second result: the gradients of the document rows, a scatter of every query line's term to the row the
  line chose.
-/
module

public import proofs.«01_k».proof.Proof.RefRun

@[expose] public section

set_option maxRecDepth 16384

noncomputable section

namespace Cert.ReferenceIdeal.RefDoc

open Cert.ReferenceIdeal Cert.ReferenceIdeal.Gen Idealize.ShloMosaic Idealize.ShloMosaic.TcCoe Idealize.SL.Sem
open Cert.Spec Cert.ReferenceIdeal.RefIndex Cert.ReferenceIdeal.RefRun

/-- A scatter into zeros, at an entry: the updates of the pairs that name the entry's document and row, at its column. -/
theorem scatter_apply (z : FVec Ideal S1524x1280x128 .f32) (idx : IVec S12x1524x32x2 32) (upd : FVec Ideal S12x1524x32x128 .f32)
    (hz : ∀ y, (z y : EReal) = 0) (row : Fin 12 → Fin 1524 → Fin 32 → Fin 1280)
    (h0 : ∀ b n i, (idx (ix4 b n i 0)).toInt = n.val) (h1 : ∀ b n i, (idx (ix4 b n i 1)).toInt = (row b n i).val)
    (n : Fin 1524) (s : Fin 1280) (j : Fin 128) :
    (Host.scatterAdd landing z idx upd (ix3 n s j) : EReal)
      = ∑ b : Fin 12, ∑ i : Fin 32, if row b n i = s then (upd (ix4 b n i j) : EReal) else 0 := by
  show (z (ix3 n s j) : EReal)
      + ∑ y ∈ Finset.univ.filter (fun y => ScatterDims.resultIdx? landing y idx = some (ix3 n s j)), (upd y : EReal) = _
  rw [hz, zero_add, Finset.sum_filter, sum_idx4]
  refine Finset.sum_congr rfl fun b _ => ?_
  have key : ∀ (n' : Fin 1524) (i : Fin 32) (e : Fin 128),
      (ScatterDims.resultIdx? landing (ix4 b n' i e) idx = some (ix3 n s j)) ↔ (n' = n ∧ row b n i = s ∧ e = j) := by
    intro n' i e
    rw [lands, h0, h1]
    constructor
    · rintro ⟨a, r, q⟩
      have a' : n' = n := Fin.ext (by exact_mod_cast a)
      subst a'
      exact ⟨rfl, Fin.ext (by exact_mod_cast r), q⟩
    · rintro ⟨rfl, r, q⟩
      exact ⟨rfl, by rw [r], q⟩
  simp only [key]
  rw [Finset.sum_eq_single n (fun n' _ hn => Finset.sum_eq_zero fun i _ => Finset.sum_eq_zero fun e _ => if_neg fun h => hn h.1)
    (fun h => absurd (Finset.mem_univ n) h)]
  refine Finset.sum_congr rfl fun i _ => ?_
  rw [Finset.sum_eq_single j (fun e _ he => if_neg fun h => he h.2.2) (fun h => absurd (Finset.mem_univ j) h)]
  by_cases hr : row b n i = s
  · rw [if_pos ⟨rfl, hr, rfl⟩, if_pos hr]
  · rw [if_neg (fun h => hr h.2.1), if_neg hr]

variable (w : Valuation τ sig (Elt Ideal))

/-- The second result is the scatter, narrowed. -/
theorem v65_scatter : StableHlo.after [hostOps1].flatten w (Proc.devRef .tc main_v65)
    = fun y => (Host.scatterAdd (F := Ideal) (φ := .f32) landing (StableHlo.after [hostOps1].flatten w (Proc.devRef .tc main_v49))
        (StableHlo.after [hostOps1].flatten w (Proc.devRef .tc main_v63)) (StableHlo.after [hostOps1].flatten w (Proc.devRef .tc main_v48)) y : EReal) := by
  after_reads_simp
  rfl

/-- It starts from zeros. -/
theorem v49_apply (y : S1524x1280x128.Idx) : StableHlo.after [hostOps1].flatten w (Proc.devRef .tc main_v49) y = (0 : EReal) := by
  idx_vars y
  after_reads_at

/-- Its updates. -/
theorem v48_apply (b : Fin 12) (n : Fin 1524) (i : Fin 32) (j : Fin 128) (a5 a0 a1 : EReal)
    (h5 : w (Proc.devRef .tc main_arg5) (ix2 b n) = a5) (h0 : w (Proc.devRef .tc main_arg0) (ix3 b i j) = a0)
    (h1 : w (Proc.devRef .tc main_arg1) (ix2 b i) = a1) :
    (StableHlo.after [hostOps1].flatten w (Proc.devRef .tc main_v48) (ix4 b n i j) : EReal) = a5 * (a0 * a1) := by
  after_reads_at
  rw [h5, h0, h1]

/-- Its index array holds the document number, -/
theorem v63_doc (b : Fin 12) (n : Fin 1524) (i : Fin 32) (h : w (Proc.devRef .tc main_v1) (ix3 0 n 0) = BitVec.ofNat 32 n.val) :
    BitVec.toInt (n := 32) (StableHlo.after [hostOps1].flatten w (Proc.devRef .tc main_v63) (ix4 b n i 0)) = n.val := by
  after_reads_at
  rw [h]
  exact wrap_doc n _

/-- and the row number. -/
theorem v63_row (hx : RowNumbers (w (Proc.devRef .tc main_arg4))) (b : Fin 12) (n : Fin 1524) (i : Fin 32) :
    BitVec.toInt (n := 32) (StableHlo.after [hostOps1].flatten w (Proc.devRef .tc main_v63) (ix4 b n i 1))
      = (chosen (w (Proc.devRef .tc main_arg4)) b n i).val := by
  after_reads_at
  exact wrap_row hx b n i _

variable (m : (ℓ : Loc nD τ sig) → Buf (Elt Ideal) ℓ) (c : Dev nD)

/-- The second result, at a document, a row and a column. -/
theorem result (hx : RowNumbers (m ((c : Thread nD τ).loc main_arg4))) (n : Fin 1524) (s : Fin 1280) (j : Fin 128) :
    (StableHlo.after [hostOps1].flatten (W m c) (Proc.devRef .tc main_v65) (ix3 n s j) : EReal)
      = docGrad (m ((c : Thread nD τ).loc main_arg0)) (m ((c : Thread nD τ).loc main_arg1)) (m ((c : Thread nD τ).loc main_arg4))
          (m ((c : Thread nD τ).loc main_arg5)) n s j := by
  have hr : ∀ b n i, BitVec.toInt (n := 32) (StableHlo.after [hostOps1].flatten (W m c) (Proc.devRef .tc main_v63) (ix4 b n i 1))
      = (chosen (m ((c : Thread nD τ).loc main_arg4)) b n i).val := by
    intro b n i
    have e := v63_row (W m c) (by rw [W_arg4]; exact hx) b n i
    rw [W_arg4] at e
    exact e
  have hd : ∀ b n i, BitVec.toInt (n := 32) (StableHlo.after [hostOps1].flatten (W m c) (Proc.devRef .tc main_v63) (ix4 b n i 0)) = n.val :=
    fun b n i => v63_doc (W m c) b n i (by rw [W_v1]; exact v1_apply m c n)
  refine (congrFun (v65_scatter (W m c)) (ix3 n s j)).trans ?_
  refine (scatter_apply _ _ _ (v49_apply (W m c)) _ hd hr n s j).trans ?_
  unfold docGrad
  refine Finset.sum_congr rfl fun b _ => Finset.sum_congr rfl fun i _ => ?_
  rw [v48_apply (W m c) b n i j _ _ _ (congrFun (W_arg5 m c) _) (congrFun (W_arg0 m c) _) (congrFun (W_arg1 m c) _)]
  rfl

end Cert.ReferenceIdeal.RefDoc

end
-- ==== Proof.Results.lean ====
/-
  From the same arguments the reference ends with the kernel's two results: each entry of either is the same sum over the
  arguments' entries.
-/
module

public import proofs.«01_k».proof.Defs
public import proofs.«01_k».proof.Proof.Pre
public import proofs.«01_k».proof.Proof.KernelQuery
public import proofs.«01_k».proof.Proof.KernelDoc
public import proofs.«01_k».proof.Proof.RefQuery
public import proofs.«01_k».proof.Proof.RefDoc
public import proofs.«01_k».proof.Proof.Gen.Pre_sound

@[expose] public section

set_option maxRecDepth 16384

noncomputable section

namespace Cert.Results

open Idealize.ShloMosaic Idealize.ShloMosaic.TcCoe Idealize.SL.Sem Cert.Spec

/-- The kernel's memory and the reference's hold the same six arguments. -/
abbrev SameArgs (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) : Prop :=
  ∀ c : Dev KernelIdeal.nD,
    m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The first results are equal. -/
theorem query_eq (hpre : Pre_KernelIdeal_sound (hPre_sound := Pre_sound.Gen.facts) m) (hargs : SameArgs m m') (c : Dev KernelIdeal.nD) :
    StableHlo.after [ReferenceIdeal.Gen.hostOps1].flatten (ReferenceIdeal.RefRun.W m' c) (Proc.devRef .tc ReferenceIdeal.main_v66)
      = KernelIdeal.Value.G6 m c := by
  have hx := @Pre_sound.rowNumbers Pre_sound.Gen.facts _ _ _ _ _ _ (hpre c).1
  obtain ⟨_, _, e2, e3, e4, e5⟩ := hargs c
  refine funext fun (y : (⟨2, ![384, 128]⟩ : Shape).Idx) => ?_
  obtain ⟨p, j, rfl⟩ : ∃ p j, y = ix2 p j := ⟨_, _, eq_ix2 y⟩
  refine (ReferenceIdeal.RefQuery.result m' c (by rw [e4]; exact hx) p j).trans ?_
  rw [e2, e3, e4, e5]
  exact (KernelIdeal.Query.result m c hx p j).symm

/-- The second results are equal. -/
theorem doc_eq (hpre : Pre_KernelIdeal_sound (hPre_sound := Pre_sound.Gen.facts) m) (hargs : SameArgs m m') (c : Dev KernelIdeal.nD) :
    StableHlo.after [ReferenceIdeal.Gen.hostOps1].flatten (ReferenceIdeal.RefRun.W m' c) (Proc.devRef .tc ReferenceIdeal.main_v65)
      = KernelIdeal.Value.G7 m c := by
  have hx := @Pre_sound.rowNumbers Pre_sound.Gen.facts _ _ _ _ _ _ (hpre c).1
  have hq := @Pre_sound.finite Pre_sound.Gen.facts _ _ _ _ _ _ (hpre c).2
  obtain ⟨e0, e1, _, _, e4, e5⟩ := hargs c
  refine funext fun (y : (⟨3, ![1524, 1280, 128]⟩ : Shape).Idx) => ?_
  obtain ⟨n, s, j, rfl⟩ : ∃ n s j, y = ix3 n s j := ⟨_, _, _, eq_ix3 y⟩
  refine (ReferenceIdeal.RefDoc.result m' c (by rw [e4]; exact hx) n s j).trans ?_
  rw [e0, e1, e4, e5]
  exact (KernelIdeal.Doc.result m c hx hq n s j).symm

open ReferenceIdeal ReferenceIdeal.Gen in
/-- The reference's run ends with the kernel's results and its own arguments unchanged. -/
theorem run (ρ' : Dev ReferenceIdeal.nD → PrngReg) (hpre : Pre_KernelIdeal_sound (hPre_sound := Pre_sound.Gen.facts) m) (hargs : SameArgs m m') :
    θ_run (ReferenceIdeal.defs (F := Ideal)) (onTc (τ := ReferenceIdeal.τ) (ReferenceIdeal.main (F := Ideal))) ⟨m', fun _ => 0, ρ'⟩
      (fun r => ∀ c : Dev ReferenceIdeal.nD,
        r.2.mem ((c.tc : Thread ReferenceIdeal.nD ReferenceIdeal.τ).loc main_v66) = KernelIdeal.Value.G6 m c
        ∧ r.2.mem ((c.tc : Thread ReferenceIdeal.nD ReferenceIdeal.τ).loc main_v65) = KernelIdeal.Value.G7 m c
        ∧ r.2.mem ((c.tc : Thread ReferenceIdeal.nD ReferenceIdeal.τ).loc main_arg0) = m' ((c.tc : Thread ReferenceIdeal.nD ReferenceIdeal.τ).loc main_arg0)
        ∧ r.2.mem ((c.tc : Thread ReferenceIdeal.nD ReferenceIdeal.τ).loc main_arg1) = m' ((c.tc : Thread ReferenceIdeal.nD ReferenceIdeal.τ).loc main_arg1)
        ∧ r.2.mem ((c.tc : Thread ReferenceIdeal.nD ReferenceIdeal.τ).loc main_arg2) = m' ((c.tc : Thread ReferenceIdeal.nD ReferenceIdeal.τ).loc main_arg2)
        ∧ r.2.mem ((c.tc : Thread ReferenceIdeal.nD ReferenceIdeal.τ).loc main_arg3) = m' ((c.tc : Thread ReferenceIdeal.nD ReferenceIdeal.τ).loc main_arg3)
        ∧ r.2.mem ((c.tc : Thread ReferenceIdeal.nD ReferenceIdeal.τ).loc main_arg4) = m' ((c.tc : Thread ReferenceIdeal.nD ReferenceIdeal.τ).loc main_arg4)
        ∧ r.2.mem ((c.tc : Thread ReferenceIdeal.nD ReferenceIdeal.τ).loc main_arg5) = m' ((c.tc : Thread ReferenceIdeal.nD ReferenceIdeal.τ).loc main_arg5)) :=
  (θ_run ReferenceIdeal.defs _ _).mono (fun r h c =>
    ⟨((h c).2 main_v66 (Pipeline.mem_restRefs_of main_v66 (by decide) (by decide))).trans (query_eq m m' hpre hargs c),
     ((h c).2 main_v65 (Pipeline.mem_restRefs_of main_v65 (by decide) (by decide))).trans (doc_eq m m' hpre hargs c),
     ((h c).2 main_arg0 (Pipeline.mem_restRefs_of main_arg0 (by decide) (by decide))).trans (W_main_arg0 m' (dats m') c),
     ((h c).2 main_arg1 (Pipeline.mem_restRefs_of main_arg1 (by decide) (by decide))).trans (W_main_arg1 m' (dats m') c),
     ((h c).2 main_arg2 (Pipeline.mem_restRefs_of main_arg2 (by decide) (by decide))).trans (W_main_arg2 m' (dats m') c),
     ((h c).2 main_arg3 (Pipeline.mem_restRefs_of main_arg3 (by decide) (by decide))).trans (W_main_arg3 m' (dats m') c),
     ((h c).2 main_arg4 (Pipeline.mem_restRefs_of main_arg4 (by decide) (by decide))).trans (W_main_arg4 m' (dats m') c),
     ((h c).2 main_arg5 (Pipeline.mem_restRefs_of main_arg5 (by decide) (by decide))).trans (W_main_arg5 m' (dats m') c)⟩)
    (run_main m' ρ')

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_sound
public import proofs.«01_k».proof.Proof.Results
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sound.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  fun m ρ m' ρ' hpre hargs => ⟨fun c => Cert.KernelIdeal.Value.G6 m c, fun c => Cert.KernelIdeal.Value.G7 m c,
    Cert.KernelIdeal.Value.run m ρ, Cert.Results.run m m' ρ' hpre hargs⟩⟩

end Cert.Proof

end
